-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_and_open [hPre_real_and_open : Cert.Pre_real_and_open.Facts] (m : (ℓ : Loc Cert.KernelIdeal.nD Cert.KernelIdeal.τ Cert.KernelIdeal.sig) → Buf (Elt Ideal) ℓ) : Prop :=
  ∀ c : Dev Cert.KernelIdeal.nD,
    (Cert.Pre_real_and_open.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_and_open [hPre_real_and_open : Cert.Pre_real_and_open.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_and_open.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_real_and_open [hKernelIdeal : Cert.KernelIdeal.Facts] [hPre_real_and_open : Cert.Pre_real_and_open.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_and_open m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_real_and_open [hReferenceIdeal : Cert.ReferenceIdeal.Facts] [hPre_real_and_open : Cert.Pre_real_and_open.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_and_open m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_real_and_open [hKernelIdeal : Cert.KernelIdeal.Facts] [hReferenceIdeal : Cert.ReferenceIdeal.Facts] [hPre_real_and_open : Cert.Pre_real_and_open.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_and_open m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v62) = v2 c
          ∧ r.2.mem ((c.tc : Thread Cert.Reference2Ideal.nD Cert.Reference2Ideal.τ).loc Cert.Reference2Ideal.main_v64) = v3 c
          ∧ r.2.mem ((c.tc : Thread Cert.Reference2Ideal.nD Cert.Reference2Ideal.τ).loc Cert.Reference2Ideal.main_v71) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_v85) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_real_and_open : Cert.Pre_real_and_open.Facts),
    quiescent_Kernel (hKernel := hKernel)
    ∧ quiescent_KernelIdeal (hKernelIdeal := hKernelIdeal)
    ∧ quiescent_KernelIdeal_pre_real_and_open (hKernelIdeal := hKernelIdeal) (hPre_real_and_open := hPre_real_and_open)
    ∧ quiescent_ReferenceIdeal (hReferenceIdeal := hReferenceIdeal)
    ∧ quiescent_ReferenceIdeal_pre_real_and_open (hReferenceIdeal := hReferenceIdeal) (hPre_real_and_open := hPre_real_and_open)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_real_and_open (hKernelIdeal := hKernelIdeal) (hReferenceIdeal := hReferenceIdeal) (hPre_real_and_open := hPre_real_and_open)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_real_and_open.lean ====
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_arg1 : FVec F S16384x1024 .f32) (main_v14 : IVec S_ 1) (main_v16 : IVec S16384x1024 1) : IVec S_ 1 :=
  let main_cst_5 : FVec F S_ .f32 := constant S_ .f32 0x7F800000#32
  let main_v17 : FVec F S16384x1024 .f32 := broadcastInDim S16384x1024 ![] bcast_S_S16384x1024 main_cst_5
  let main_v18 : IVec S16384x1024 1 := cmpf .olt main_arg1 main_v17
  let main_v19 : IVec S16384x1024 1 := andi main_v16 main_v18
  let main_c_6 : IVec S_ 1 := constantI S_ 1 1#1
  let main_v20 : IVec S_ 1 := (fun x v => Host.reduce IntOp.andi x v reducesTo_S16384x1024_S_d0_1 h_S_) main_v19 main_c_6
  let main_v21 : IVec S_ 1 := andi main_v14 main_v20
  let main_cst_7 : FVec F S_ .f32 := constant S_ .f32 0x00000000#32
  let main_v22 : FVec F S16384x1024 .f32 := broadcastInDim S16384x1024 ![] bcast_S_S16384x1024 main_cst_7
  let main_v23 : IVec S16384x1024 1 := cmpf .ogt main_arg1 main_v22
  let main_c_8 : IVec S_ 1 := constantI S_ 1 1#1
  let main_v24 : IVec S_ 1 := (fun x v => Host.reduce IntOp.andi x v reducesTo_S16384x1024_S_d0_1 h_S_) main_v23 main_c_8
  let main_v25 : IVec S_ 1 := andi main_v21 main_v24
  main_v25

def fn {F : FTy → Type} [FloatOps F] (main_arg0 : FVec F S16384x1024 .bf16) (main_arg1 : FVec F S16384x1024 .f32) (main_arg2 : FVec F S16384x1024 .bf16) (main_arg3 : FVec F S16384x1024 .bf16) (main_arg4 : FVec F S1x1024 .f32) : IVec S_ 1 :=
  let main_v0 : FVec F S16384x1024 .f32 := (extf .f32 · bitsLt_bf16_f32) main_arg0
  let main_cst : FVec F S_ .f32 := constant S_ .f32 0xFF800000#32
  let main_v1 : FVec F S16384x1024 .f32 := broadcastInDim S16384x1024 ![] bcast_S_S16384x1024 main_cst
  let main_v2 : IVec S16384x1024 1 := cmpf .ogt main_v0 main_v1
  let main_cst_0 : FVec F S_ .f32 := constant S_ .f32 0x7F800000#32
  let main_v3 : FVec F S16384x1024 .f32 := broadcastInDim S16384x1024 ![] bcast_S_S16384x1024 main_cst_0
  let main_v4 : IVec S16384x1024 1 := cmpf .olt main_v0 main_v3
  let main_v5 : IVec S16384x1024 1 := andi main_v2 main_v4
  let main_c : IVec S_ 1 := constantI S_ 1 1#1
  let main_v6 : IVec S_ 1 := (fun x v => Host.reduce IntOp.andi x v reducesTo_S16384x1024_S_d0_1 h_S_) main_v5 main_c
  let main_v7 : FVec F S16384x1024 .f32 := (extf .f32 · bitsLt_bf16_f32) main_arg2
  let main_cst_1 : FVec F S_ .f32 := constant S_ .f32 0xFF800000#32
  let main_v8 : FVec F S16384x1024 .f32 := broadcastInDim S16384x1024 ![] bcast_S_S16384x1024 main_cst_1
  let main_v9 : IVec S16384x1024 1 := cmpf .ogt main_v7 main_v8
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v7 main_v10
  let main_v12 : IVec S16384x1024 1 := andi main_v9 main_v11
  let main_c_3 : IVec S_ 1 := constantI S_ 1 1#1
  let main_v13 : IVec S_ 1 := (fun x v => Host.reduce IntOp.andi x v reducesTo_S16384x1024_S_d0_1 h_S_) main_v12 main_c_3
  let main_v14 : IVec S_ 1 := andi main_v6 main_v13
  let main_cst_4 : FVec F S_ .f32 := constant S_ .f32 0xFF800000#32
  let main_v15 : FVec F S16384x1024 .f32 := broadcastInDim S16384x1024 ![] bcast_S_S16384x1024 main_cst_4
  let main_v16 : IVec S16384x1024 1 := cmpf .ogt main_arg1 main_v15
  fn_part1 (F := F) main_arg1 main_v14 main_v16
-- ==== Kernel.lean ====
abbrev S16384x1024 : Shape := ⟨2, ![16384, 1024]⟩
abbrev S1x1024 : Shape := ⟨2, ![1, 1024]⟩
abbrev S2048x512 : Shape := ⟨2, ![2048, 512]⟩
abbrev S1x512 : Shape := ⟨2, ![1, 512]⟩
abbrev S128x128 : Shape := ⟨2, ![128, 128]⟩
abbrev S128x512 : Shape := ⟨2, ![128, 512]⟩
abbrev S1x128 : Shape := ⟨2, ![1, 128]⟩
abbrev S128 : Shape := ⟨1, ![128]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1x1024, .f32⟩
  | .hbm, ⟨5, _⟩ => ⟨S16384x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v13 : BitVec 32 := Scalar.muli arg8 c128_i32
  v13
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v13 : BitVec 32 := Scalar.muli arg8 c128_i32
  let v14 : BitVec 32 := v13
  let v15 : Index := Scalar.indexCast v14
  let c0 : Index := 0#32
  ![v15.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v13 : BitVec 32 := Scalar.muli arg8 c128_i32
  let v14 : BitVec 32 := v13
  let v34 : Index := Scalar.indexCast v14
  let c0_9 : Index := 0#32
  ![v34.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v13 : BitVec 32 := Scalar.muli arg8 c128_i32
  let v14 : BitVec 32 := v13
  let v96 : Index := Scalar.indexCast v14
  let c128 : Index := 128#32
  ![v96.toNat, 128]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v13 : BitVec 32 := Scalar.muli arg8 c128_i32
  let v14 : BitVec 32 := v13
  let v158 : Index := Scalar.indexCast v14
  let c256 : Index := 256#32
  ![v158.toNat, 256]
def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v13 : BitVec 32 := Scalar.muli arg8 c128_i32
  let v14 : BitVec 32 := v13
  let v220 : Index := Scalar.indexCast v14
  let c384 : Index := 384#32
  ![v220.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x1024 : Shape := ⟨2, ![16384, 1024]⟩
abbrev S1x1024 : Shape := ⟨2, ![1, 1024]⟩
abbrev S8x2048x8x128 : Shape := ⟨4, ![8, 2048, 8, 128]⟩
abbrev S_ : Shape := ⟨0, ![]⟩
abbrev S8x8x128x128 : Shape := ⟨4, ![8, 8, 128, 128]⟩
abbrev S8x1x8x128 : Shape := ⟨4, ![8, 1, 8, 128]⟩
abbrev S8x8x128 : Shape := ⟨3, ![8, 8, 128]⟩
abbrev S8x8x128x1 : Shape := ⟨4, ![8, 8, 128, 1]⟩
abbrev S8x8x1x128 : Shape := ⟨4, ![8, 8, 1, 128]⟩
abbrev S8x2048x8 : Shape := ⟨3, ![8, 2048, 8]⟩
abbrev S8x2048x8x1 : Shape := ⟨4, ![8, 2048, 8, 1]⟩
abbrev S8x128 : Shape := ⟨2, ![8, 128]⟩
abbrev S1x1x8x128 : Shape := ⟨4, ![1, 1, 8, 128]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1x1024, .f32⟩
  | .hbm, ⟨5, _⟩ => ⟨S16384x1024, .f32⟩
  | .hbm, ⟨6, _⟩ => ⟨S8x2048x8x128, .f32⟩
  | .hbm, ⟨7, _⟩ => ⟨S8x2048x8x128, .f32⟩
  | .hbm, ⟨8, _⟩ => ⟨S16384x1024, .f32⟩
  | .hbm, ⟨9, _⟩ => ⟨S8x2048x8x128, .f32⟩
  | .hbm, ⟨10, _⟩ => ⟨S_, .f32⟩
  | .hbm, ⟨11, _⟩ => ⟨S8x8x128x128, .f32⟩
  | .hbm, ⟨12, _⟩ => ⟨S_, .f32⟩
  | .hbm, ⟨13, _⟩ => ⟨S8x2048x8x128, .f32⟩
  | .hbm, ⟨14, _⟩ => ⟨S_, .i32⟩
  | .hbm, ⟨15, _⟩ => ⟨S_, .i32⟩
  | .hbm, ⟨16, _⟩ => ⟨S8x2048x8x128, .f32⟩
  | .hbm, ⟨17, _⟩ => ⟨S8x2048x8x128, .f32⟩
  | .hbm, ⟨18, _⟩ => ⟨S8x2048x8x128, .f32⟩
  | .hbm, ⟨19, _⟩ => ⟨S_, .i32⟩
  | .hbm, ⟨20, _⟩ => ⟨S_, .i32⟩
  | .hbm, ⟨21, _⟩ => ⟨S8x8x128x128, .f32⟩
  | .hbm, ⟨22, _⟩ => ⟨S8x2048x8x128, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S8x1x8x128, .f32⟩
  | .hbm, ⟨37, _⟩ => ⟨S8x8x128, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S8x1x8x128, .f32⟩
  | .hbm, ⟨48, _⟩ => ⟨S8x8x128, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S8x1x8x128, .f32⟩
  | .hbm, ⟨59, _⟩ => ⟨S8x8x128, .f32⟩
  | .hbm, ⟨60, _⟩ => ⟨S8x8x128x1, .f32⟩
  | .hbm, ⟨61, _⟩ => ⟨S8x8x128x128, .f32⟩
  | .hbm, ⟨62, _⟩ => ⟨S8x8x128x128, .f32⟩
  | .hbm, ⟨63, _⟩ => ⟨S_, .f32⟩
  | .hbm, ⟨64, _⟩ => ⟨S8x8x128, .f32⟩
  | .hbm, ⟨65, _⟩ => ⟨S8x8x128, .f32⟩
  | .hbm, ⟨66, _⟩ => ⟨S8x8x128x1, .f32⟩
  | .hbm, ⟨67, _⟩ => ⟨S8x8x1x128, .f32⟩
  | .hbm, ⟨68, _⟩ => ⟨S8x8x128x128, .f32⟩
  | .hbm, ⟨69, _⟩ => ⟨S8x8x128x128, .f32⟩
  | .hbm, ⟨70, _⟩ => ⟨S8x8x128x128, .f32⟩
  | .hbm, ⟨71, _⟩ => ⟨S8x8x128x128, .f32⟩
  | .hbm, ⟨72, _⟩ => ⟨S8x8x128, .f32⟩
  | .hbm, ⟨73, _⟩ => ⟨S8x1x8x128, .f32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S8x2048x8x128, .f32⟩
  | .hbm, ⟨84, _⟩ => ⟨S_, .i32⟩
  | .hbm, ⟨85, _⟩ => ⟨S_, .i32⟩
  | .hbm, ⟨86, _⟩ => ⟨S8x2048x8x128, .f32⟩
  | .hbm, ⟨87, _⟩ => ⟨S_, .f32⟩
  | .hbm, ⟨88, _⟩ => ⟨S8x2048x8, .f32⟩
  | .hbm, ⟨89, _⟩ => ⟨S8x2048x8x1, .f32⟩
  | .hbm, ⟨90, _⟩ => ⟨S_, .f32⟩
  | .hbm, ⟨91, _⟩ => ⟨S8x2048x8x1, .f32⟩
  | .hbm, ⟨92, _⟩ => ⟨S8x2048x8x1, .f32⟩
  | .hbm, ⟨93, _⟩ => ⟨S_, .f32⟩
  | .hbm, ⟨94, _⟩ => ⟨S8x2048x8x1, .f32⟩
  | .hbm, ⟨95, _⟩ => ⟨S8x2048x8x1, .f32⟩
  | .hbm, ⟨96, _⟩ => ⟨S8x2048x8x1, .f32⟩
  | .hbm, ⟨97, _⟩ => ⟨S8x2048x8x128, .f32⟩
  | .hbm, ⟨98, _⟩ => ⟨S8x2048x8x128, .f32⟩
  | .hbm, ⟨99, _⟩ => ⟨S8x128, .f32⟩
  | .hbm, ⟨100, _⟩ => ⟨S1x1x8x128, .f32⟩
  | .hbm, ⟨101, _⟩ => ⟨S8x2048x8x128, .f32⟩
  | .hbm, ⟨102, _⟩ => ⟨S8x2048x8x128, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_c : Ref sig .tc := ⟨.hbm, 14, rfl⟩
abbrev main_c_1 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_while0c_c_11 : Ref sig .tc := ⟨.hbm, 23, rfl⟩
abbrev main_while0c_v26 : Ref sig .tc := ⟨.hbm, 24, rfl⟩
abbrev main_while0b_c_11 : Ref sig .tc := ⟨.hbm, 25, rfl⟩
abbrev main_while0b_v26 : Ref sig .tc := ⟨.hbm, 26, rfl⟩
abbrev main_while0b_c_12 : Ref sig .tc := ⟨.hbm, 27, rfl⟩
abbrev main_while0b_v27 : Ref sig .tc := ⟨.hbm, 28, rfl⟩
abbrev main_while0b_v28 : Ref sig .tc := ⟨.hbm, 29, rfl⟩
abbrev main_while0b_c_13 : Ref sig .tc := ⟨.hbm, 30, rfl⟩
abbrev main_while0b_v29 : Ref sig .tc := ⟨.hbm, 31, rfl⟩
abbrev main_while0b_v30 : Ref sig .tc := ⟨.hbm, 32, rfl⟩
abbrev main_while0b_c_14 : Ref sig .tc := ⟨.hbm, 33, rfl⟩
abbrev main_while0b_c_15 : Ref sig .tc := ⟨.hbm, 34, rfl⟩
abbrev main_while0b_c_16 : Ref sig .tc := ⟨.hbm, 35, rfl⟩
abbrev main_while0b_v31 : Ref sig .tc := ⟨.hbm, 36, rfl⟩
abbrev main_while0b_v32 : Ref sig .tc := ⟨.hbm, 37, rfl⟩
abbrev main_while0b_c_17 : Ref sig .tc := ⟨.hbm, 38, rfl⟩
abbrev main_while0b_v33 : Ref sig .tc := ⟨.hbm, 39, rfl⟩
abbrev main_while0b_v34 : Ref sig .tc := ⟨.hbm, 40, rfl⟩
abbrev main_while0b_c_18 : Ref sig .tc := ⟨.hbm, 41, rfl⟩
abbrev main_while0b_v35 : Ref sig .tc := ⟨.hbm, 42, rfl⟩
abbrev main_while0b_v36 : Ref sig .tc := ⟨.hbm, 43, rfl⟩
abbrev main_while0b_c_19 : Ref sig .tc := ⟨.hbm, 44, rfl⟩
abbrev main_while0b_c_20 : Ref sig .tc := ⟨.hbm, 45, rfl⟩
abbrev main_while0b_c_21 : Ref sig .tc := ⟨.hbm, 46, rfl⟩
abbrev main_while0b_v37 : Ref sig .tc := ⟨.hbm, 47, rfl⟩
abbrev main_while0b_v38 : Ref sig .tc := ⟨.hbm, 48, rfl⟩
abbrev main_while0b_c_22 : Ref sig .tc := ⟨.hbm, 49, rfl⟩
abbrev main_while0b_v39 : Ref sig .tc := ⟨.hbm, 50, rfl⟩
abbrev main_while0b_v40 : Ref sig .tc := ⟨.hbm, 51, rfl⟩
abbrev main_while0b_c_23 : Ref sig .tc := ⟨.hbm, 52, rfl⟩
abbrev main_while0b_v41 : Ref sig .tc := ⟨.hbm, 53, rfl⟩
abbrev main_while0b_v42 : Ref sig .tc := ⟨.hbm, 54, rfl⟩
abbrev main_while0b_c_24 : Ref sig .tc := ⟨.hbm, 55, rfl⟩
abbrev main_while0b_c_25 : Ref sig .tc := ⟨.hbm, 56, rfl⟩
abbrev main_while0b_c_26 : Ref sig .tc := ⟨.hbm, 57, rfl⟩
abbrev main_while0b_v43 : Ref sig .tc := ⟨.hbm, 58, rfl⟩
abbrev main_while0b_v44 : Ref sig .tc := ⟨.hbm, 59, rfl⟩
abbrev main_while0b_v45 : Ref sig .tc := ⟨.hbm, 60, rfl⟩
abbrev main_while0b_v46 : Ref sig .tc := ⟨.hbm, 61, rfl⟩
abbrev main_while0b_v47 : Ref sig .tc := ⟨.hbm, 62, rfl⟩
abbrev main_while0b_cst_27 : Ref sig .tc := ⟨.hbm, 63, rfl⟩
abbrev main_while0b_v48 : Ref sig .tc := ⟨.hbm, 64, rfl⟩
abbrev main_while0b_v49 : Ref sig .tc := ⟨.hbm, 65, rfl⟩
abbrev main_while0b_v50 : Ref sig .tc := ⟨.hbm, 66, rfl⟩
abbrev main_while0b_v51 : Ref sig .tc := ⟨.hbm, 67, rfl⟩
abbrev main_while0b_v52 : Ref sig .tc := ⟨.hbm, 68, rfl⟩
abbrev main_while0b_v53 : Ref sig .tc := ⟨.hbm, 69, rfl⟩
abbrev main_while0b_v54 : Ref sig .tc := ⟨.hbm, 70, rfl⟩
abbrev main_while0b_v55 : Ref sig .tc := ⟨.hbm, 71, rfl⟩
abbrev main_while0b_v56 : Ref sig .tc := ⟨.hbm, 72, rfl⟩
abbrev main_while0b_v57 : Ref sig .tc := ⟨.hbm, 73, rfl⟩
abbrev main_while0b_c_28 : Ref sig .tc := ⟨.hbm, 74, rfl⟩
abbrev main_while0b_v58 : Ref sig .tc := ⟨.hbm, 75, rfl⟩
abbrev main_while0b_v59 : Ref sig .tc := ⟨.hbm, 76, rfl⟩
abbrev main_while0b_c_29 : Ref sig .tc := ⟨.hbm, 77, rfl⟩
abbrev main_while0b_v60 : Ref sig .tc := ⟨.hbm, 78, rfl⟩
abbrev main_while0b_v61 : Ref sig .tc := ⟨.hbm, 79, rfl⟩
abbrev main_while0b_c_30 : Ref sig .tc := ⟨.hbm, 80, rfl⟩
abbrev main_while0b_c_31 : Ref sig .tc := ⟨.hbm, 81, rfl⟩
abbrev main_while0b_c_32 : Ref sig .tc := ⟨.hbm, 82, rfl⟩
abbrev main_while0b_v62 : Ref sig .tc := ⟨.hbm, 83, rfl⟩
abbrev main_while0b_c_33 : Ref sig .tc := ⟨.hbm, 84, rfl⟩
abbrev main_while0b_v63 : Ref sig .tc := ⟨.hbm, 85, rfl⟩
abbrev main_v8 : Ref sig .tc := ⟨.hbm, 86, rfl⟩
abbrev main_cst_2 : Ref sig .tc := ⟨.hbm, 87, rfl⟩
abbrev main_v9 : Ref sig .tc := ⟨.hbm, 88, rfl⟩
abbrev main_v10 : Ref sig .tc := ⟨.hbm, 89, rfl⟩
abbrev main_cst_3 : Ref sig .tc := ⟨.hbm, 90, rfl⟩
abbrev main_v11 : Ref sig .tc := ⟨.hbm, 91, rfl⟩
abbrev main_v12 : Ref sig .tc := ⟨.hbm, 92, rfl⟩
abbrev main_cst_4 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S8x6x1024 : Shape := ⟨3, ![8, 6, 1024]⟩
abbrev S1x1024 : Shape := ⟨2, ![1, 1024]⟩
abbrev S2x1024 : Shape := ⟨2, ![2, 1024]⟩
abbrev S1x1024x8192 : Shape := ⟨3, ![1, 1024, 8192]⟩
abbrev S16384x1024 : Shape := ⟨2, ![16384, 1024]⟩
abbrev S1024 : Shape := ⟨1, ![1024]⟩
abbrev S1024x8192 : Shape := ⟨2, ![1024, 8192]⟩
abbrev S256x1024 : Shape := ⟨2, ![256, 1024]⟩
abbrev S1x6x1024 : Shape := ⟨3, ![1, 6, 1024]⟩
abbrev S6x1024 : Shape := ⟨2, ![6, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 17
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1x1024, .f32⟩
  | .hbm, ⟨3, _⟩ => ⟨S2x1024, .f32⟩
  | .hbm, ⟨4, _⟩ => ⟨S1x1024x8192, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x8192, .f32⟩
  | .hbm, ⟨9, _⟩ => ⟨S1024x8192, .bf16⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S16384x1024, .bf16⟩
  | .hbm, ⟨14, _⟩ => ⟨S16384x1024, .f32⟩
  | .hbm, ⟨15, _⟩ => ⟨S16384x1024, .bf16⟩
  | .hbm, ⟨16, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S2x1024, .f32⟩
  | .local _ .vmem, ⟨6, _⟩ => ⟨S1024x8192, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x2048x1024 : Shape := ⟨3, ![8, 2048, 1024]⟩
abbrev S8x6x1024 : Shape := ⟨3, ![8, 6, 1024]⟩
abbrev S1x1024 : Shape := ⟨2, ![1, 1024]⟩
abbrev S2x1024 : Shape := ⟨2, ![2, 1024]⟩
abbrev S1x1024x8192 : Shape := ⟨3, ![1, 1024, 8192]⟩
abbrev S_ : Shape := ⟨0, ![]⟩
abbrev S1024 : Shape := ⟨1, ![1024]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩
abbrev S1024x8192 : Shape := ⟨2, ![1024, 8192]⟩
abbrev S8x2048x8192 : Shape := ⟨3, ![8, 2048, 8192]⟩
abbrev S16384x8192 : Shape := ⟨2, ![16384, 8192]⟩
abbrev S16384x1024 : Shape := ⟨2, ![16384, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1x1024, .f32⟩
  | .hbm, ⟨3, _⟩ => ⟨S2x1024, .f32⟩
  | .hbm, ⟨4, _⟩ => ⟨S1x1024x8192, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S_, .f32⟩
  | .hbm, ⟨21, _⟩ => ⟨S2x1024, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S1024x8192, .f32⟩
  | .hbm, ⟨49, _⟩ => ⟨S8x2048x8192, .f32⟩
  | .hbm, ⟨50, _⟩ => ⟨S16384x8192, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .bf16⟩
  | .hbm, ⟨79, _⟩ => ⟨S16384x1024, .bf16⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .bf16⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384x1024, .f32⟩
  | .hbm, ⟨106, _⟩ => ⟨S16384x1024, .f32⟩
  | .hbm, ⟨107, _⟩ => ⟨S16384x1024, .bf16⟩
  | .hbm, ⟨108, _⟩ => ⟨S16384x1024, .f32⟩
  | .hbm, ⟨109, _⟩ => ⟨S16384x1024, .f32⟩
  | .hbm, ⟨110, _⟩ => ⟨S_, .f32⟩
  | .hbm, ⟨111, _⟩ => ⟨S16384x1024, .f32⟩
  | .hbm, ⟨112, _⟩ => ⟨S16384x1024, .f32⟩
  | .hbm, ⟨113, _⟩ => ⟨S_, .f32⟩
  | .hbm, ⟨114, _⟩ => ⟨S16384x1024, .f32⟩
  | .hbm, ⟨115, _⟩ => ⟨S16384x1024, .f32⟩
  | .hbm, ⟨116, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_11 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_13 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Kernel3.lean ====
abbrev S16384x1024 : Shape := ⟨2, ![16384, 1024]⟩
abbrev S8x2048x1024 : Shape := ⟨3, ![8, 2048, 1024]⟩
abbrev S8x6x1024 : Shape := ⟨3, ![8, 6, 1024]⟩
abbrev S1x1024x1024 : Shape := ⟨3, ![1, 1024, 1024]⟩
abbrev S1024x1024 : Shape := ⟨2, ![1024, 1024]⟩
abbrev S512x1024 : Shape := ⟨2, ![512, 1024]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 17
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S8x2048x1024, .f32⟩
  | .hbm, ⟨5, _⟩ => ⟨S8x6x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S16384x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S8x2048x1024 : Shape := ⟨3, ![8, 2048, 1024]⟩
abbrev S8x6x1024 : Shape := ⟨3, ![8, 6, 1024]⟩
abbrev S1x1024x1024 : Shape := ⟨3, ![1, 1024, 1024]⟩
abbrev S1024x1024 : Shape := ⟨2, ![1024, 1024]⟩
abbrev S8x1x1024 : Shape := ⟨3, ![8, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S8x2048x1024, .f32⟩
  | .hbm, ⟨5, _⟩ => ⟨S8x6x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x1024, .f32⟩
  | .hbm, ⟨21, _⟩ => ⟨S16384x1024, .f32⟩
  | .hbm, ⟨22, _⟩ => ⟨S8x2048x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel4.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S1024x6144, .bf16⟩
  | .hbm, ⟨5, _⟩ => ⟨S6144, .f32⟩
  | .hbm, ⟨6, _⟩ => ⟨S1x6144, .f32⟩
  | .hbm, ⟨7, _⟩ => ⟨S8x6144, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Trip.lean ====
/- One trip of the chunk loop, as plain functions of the blocks it loads: the same operations for each of the four heads. -/
module

public import proofs.«01_k».proof.Proof.Gen.KernelIdeal.Value
public import proofs.«01_k».proof.Defs

@[expose] public section

set_option maxRecDepth 8192
set_option maxHeartbeats 400000

noncomputable section

namespace Cert.KernelIdeal.Trip

open Cert.KernelIdeal Cert.KernelIdeal.Gen Idealize.ShloMosaic Idealize.ShloMosaic.TcCoe
open Facts

/-- A row of 128 values, given to every row of a tile. -/
def rows (x : FVec Ideal S1x128 .f32) : FVec Ideal S128x128 .f32 := broadcastTo S128x128 x broadcasts_S1x128_S128x128
/-- The middle row of a tile. -/
def mid (b : FVec Ideal S128x128 .f32) : FVec Ideal S1x128 .f32 := extractStridedSlice S1x128 ![63, 0] b slices_S128x128_o63_0_S1x128
/-- The last row of a tile. -/
def last (b : FVec Ideal S128x128 .f32) : FVec Ideal S1x128 .f32 := extractStridedSlice S1x128 ![127, 0] b slices_S128x128_o127_0_S1x128
/-- One minus the gates. -/
def keys (f : FVec Ideal S128x128 .f32) : FVec Ideal S128x128 .f32 := subf (broadcast S128x128 (Scalar.ofBits .f32 0x3F800000#32)) f

/-- A head's attention scores within the chunk, masked to the rows at or before. -/
def scores (b f : FVec Ideal S128x128 .f32) (q : FVec Ideal S128x128 .bf16) : FVec Ideal S128x128 .f32 :=
  select k0_pay1
    (matmul dot_S128x128_S128x128_S128x128_1_1_0_0_n_n none
      (truncf .bf16 (mulf (extf .f32 q bitsLt_bf16_f32) (exp (subf b (rows (mid b))))) bitsLt_bf16_f32)
      (truncf .bf16 (mulf (keys f) (exp (subf (rows (mid b)) b))) bitsLt_bf16_f32)
      (constant S128x128 .f32 0x00000000#32))
    (broadcast S128x128 (Scalar.ofBits .f32 0x00000000#32))

/-- A head's output before the normalisation. -/
def preOut (b f : FVec Ideal S128x128 .f32) (q v : FVec Ideal S128x128 .bf16) (st : FVec Ideal S128x128 .f32) : FVec Ideal S128x128 .f32 :=
  addf
    (matmul dot_S128x128_S128x128_S128x128_1_0_0_1_n_n none (truncf .bf16 (scores b f q) bitsLt_bf16_f32) v
      (constant S128x128 .f32 0x00000000#32))
    (matmul dot_S128x128_S128x128_S128x128_1_1_0_0_n_n none
      (truncf .bf16 (mulf (extf .f32 q bitsLt_bf16_f32) (exp b)) bitsLt_bf16_f32) (truncf .bf16 st bitsLt_bf16_f32)
      (constant S128x128 .f32 0x00000000#32))

/-- A head's state after the chunk. -/
def newSt (b f : FVec Ideal S128x128 .f32) (v : FVec Ideal S128x128 .bf16) (st : FVec Ideal S128x128 .f32) : FVec Ideal S128x128 .f32 :=
  addf (mulf st (rows (exp (last b))))
    (matmul dot_S128x128_S128x128_S128x128_0_0_1_1_n_n none v
      (truncf .bf16 (mulf (keys f) (exp (subf (rows (last b)) b))) bitsLt_bf16_f32) (constant S128x128 .f32 0x00000000#32))

/-- A head's output: normalised, scaled and gated. -/
def finish (o : FVec Ideal S128x128 .f32) (g : FVec Ideal S1x128 .f32) (sg : FVec Ideal S128x128 .bf16) : FVec Ideal S128x128 .bf16 :=
  truncf .bf16
    (mulf
      (mulf
        (mulf o (broadcastTo S128x128
          (rsqrt (addf (divf (shapeCast S128x1 (multiReduction .add [1] S128 (mulf o o) 0x00000000#32 reduces_S128x128_S128 (.inl rfl) rfl) shapeCasts_S128_S128x1)
            (broadcast S128x1 (Scalar.ofBits .f32 0x43000000#32))) (broadcast S128x1 (Scalar.ofBits .f32 0x358637BD#32)))) broadcasts_S128x1_S128x128))
        (broadcastTo S128x128 g broadcasts_S1x128_S128x128))
      (extf .f32 sg bitsLt_bf16_f32))
    bitsLt_bf16_f32

/-- Head 0's columns of a chunk. -/
def c0 (x : FVec Ideal S128x512 .f32) : FVec Ideal S128x128 .f32 := extractStridedSlice S128x128 ![0, 0] x slices_S128x512_o0_0_S128x128
/-- Head 1's columns of a chunk. -/
def c1 (x : FVec Ideal S128x512 .f32) : FVec Ideal S128x128 .f32 := extractStridedSlice S128x128 ![0, 128] x slices_S128x512_o0_128_S128x128
/-- Head 2's columns of a chunk. -/
def c2 (x : FVec Ideal S128x512 .f32) : FVec Ideal S128x128 .f32 := extractStridedSlice S128x128 ![0, 256] x slices_S128x512_o0_256_S128x128
/-- Head 3's columns of a chunk. -/
def c3 (x : FVec Ideal S128x512 .f32) : FVec Ideal S128x128 .f32 := extractStridedSlice S128x128 ![0, 384] x slices_S128x512_o0_384_S128x128

/-- The gates of trip `k`'s chunk, all four heads. -/
abbrev fb (arg3 : Memref sig .tc .vmem S2048x512 .f32) (X3 : BufTy.Contents (Elt Ideal) arg3.view.ty) (k : Fin k0_t1_loop.trips) : FVec Ideal S128x512 .f32 :=
  View.readAt (Elt Ideal) arg3.view (Rect.unit (s := S2048x512) (k0_off1 k) ![128, 512] (k0_off1_inb k)).toLoadRect X3
/-- Head 0's tile of trip `k`'s chunk. -/
abbrev t0 (a : Memref sig .tc .vmem S2048x512 .bf16) (X : BufTy.Contents (Elt Ideal) a.view.ty) (k : Fin k0_t1_loop.trips) : FVec Ideal S128x128 .bf16 :=
  View.readAt (Elt Ideal) a.view (Rect.unit (s := S2048x512) (k0_off2 k) ![128, 128] (k0_off2_inb k)).toLoadRect X
/-- Head 0's scale. -/
abbrev g0 (a : Memref sig .tc .vmem S1x512 .f32) (X : BufTy.Contents (Elt Ideal) a.view.ty) : FVec Ideal S1x128 .f32 :=
  View.readAt (Elt Ideal) a.view (Rect.unit (s := S1x512) ![0, 0] ![1, 128] inb_S1x512_S1x128_0_0).toLoadRect X
/-- Head 1's tile of trip `k`'s chunk. -/
abbrev t1 (a : Memref sig .tc .vmem S2048x512 .bf16) (X : BufTy.Contents (Elt Ideal) a.view.ty) (k : Fin k0_t1_loop.trips) : FVec Ideal S128x128 .bf16 :=
  View.readAt (Elt Ideal) a.view (Rect.unit (s := S2048x512) (k0_off3 k) ![128, 128] (k0_off3_inb k)).toLoadRect X
/-- Head 1's scale. -/
abbrev g1 (a : Memref sig .tc .vmem S1x512 .f32) (X : BufTy.Contents (Elt Ideal) a.view.ty) : FVec Ideal S1x128 .f32 :=
  View.readAt (Elt Ideal) a.view (Rect.unit (s := S1x512) ![0, 128] ![1, 128] inb_S1x512_S1x128_0_128).toLoadRect X
/-- Head 2's tile of trip `k`'s chunk. -/
abbrev t2 (a : Memref sig .tc .vmem S2048x512 .bf16) (X : BufTy.Contents (Elt Ideal) a.view.ty) (k : Fin k0_t1_loop.trips) : FVec Ideal S128x128 .bf16 :=
  View.readAt (Elt Ideal) a.view (Rect.unit (s := S2048x512) (k0_off4 k) ![128, 128] (k0_off4_inb k)).toLoadRect X
/-- Head 2's scale. -/
abbrev g2 (a : Memref sig .tc .vmem S1x512 .f32) (X : BufTy.Contents (Elt Ideal) a.view.ty) : FVec Ideal S1x128 .f32 :=
  View.readAt (Elt Ideal) a.view (Rect.unit (s := S1x512) ![0, 256] ![1, 128] inb_S1x512_S1x128_0_256).toLoadRect X
/-- Head 3's tile of trip `k`'s chunk. -/
abbrev t3 (a : Memref sig .tc .vmem S2048x512 .bf16) (X : BufTy.Contents (Elt Ideal) a.view.ty) (k : Fin k0_t1_loop.trips) : FVec Ideal S128x128 .bf16 :=
  View.readAt (Elt Ideal) a.view (Rect.unit (s := S2048x512) (k0_off5 k) ![128, 128] (k0_off5_inb k)).toLoadRect X
/-- Head 3's scale. -/
abbrev g3 (a : Memref sig .tc .vmem S1x512 .f32) (X : BufTy.Contents (Elt Ideal) a.view.ty) : FVec Ideal S1x128 .f32 :=
  View.readAt (Elt Ideal) a.view (Rect.unit (s := S1x512) ![0, 384] ![1, 128] inb_S1x512_S1x128_0_384).toLoadRect X

/-- What a trip yields: each head's state after the chunk. -/
theorem tripR_eq (𝒱 : Variants) (c : Dev nD) (bd : Option 𝒱.V) (i : grid0.Coords) (arg2 : Memref sig .tc .vmem S2048x512 .bf16) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S2048x512 .bf16) (harg7 : arg7.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (k : Fin k0_t1_loop.trips) (acc : FVec Ideal S128x128 .f32 × FVec Ideal S128x128 .f32 × FVec Ideal S128x128 .f32 × FVec Ideal S128x128 .f32) :
  tripR_k0_t1 (F := Ideal) 𝒱 c bd i arg2 harg2 arg3 harg3 arg4 harg4 arg5 harg5 arg6 harg6 arg7 harg7 X2 X3 X4 X5 X6 k acc
   = (newSt (c0 (k0_pay9 k0_pay2 (fb arg3 X3 k))) (c0 (fb arg3 X3 k)) (t0 arg4 X4 k) acc.1,
      newSt (c1 (k0_pay9 k0_pay2 (fb arg3 X3 k))) (c1 (fb arg3 X3 k)) (t1 arg4 X4 k) acc.2.1,
      newSt (c2 (k0_pay9 k0_pay2 (fb arg3 X3 k))) (c2 (fb arg3 X3 k)) (t2 arg4 X4 k) acc.2.2.1,
      newSt (c3 (k0_pay9 k0_pay2 (fb arg3 X3 k))) (c3 (fb arg3 X3 k)) (t3 arg4 X4 k) acc.2.2.2) := by
  unfold tripR_k0_t1
  unfold trip_k0_t1
  dsimp only
  rfl

/-- What a trip stores: each head's output tile, last first. -/
theorem tripL_eq (𝒱 : Variants) (c : Dev nD) (bd : Option 𝒱.V) (i : grid0.Coords) (arg2 : Memref sig .tc .vmem S2048x512 .bf16) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S2048x512 .bf16) (harg7 : arg7.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (k : Fin k0_t1_loop.trips) (acc : FVec Ideal S128x128 .f32 × FVec Ideal S128x128 .f32 × FVec Ideal S128x128 .f32 × FVec Ideal S128x128 .f32) :
  tripL_k0_t1 (F := Ideal) 𝒱 c bd i arg2 harg2 arg3 harg3 arg4 harg4 arg5 harg5 arg6 harg6 arg7 harg7 X2 X3 X4 X5 X6 k acc
   = [⟨Rect.unit (k0_off5 k) ![128, 128] (k0_off5_inb k), finish (preOut (c3 (k0_pay9 k0_pay2 (fb arg3 X3 k))) (c3 (fb arg3 X3 k)) (t3 arg2 X2 k) (t3 arg4 X4 k) acc.2.2.2) (g3 arg6 X6) (t3 arg5 X5 k)⟩,
      ⟨Rect.unit (k0_off4 k) ![128, 128] (k0_off4_inb k), finish (preOut (c2 (k0_pay9 k0_pay2 (fb arg3 X3 k))) (c2 (fb arg3 X3 k)) (t2 arg2 X2 k) (t2 arg4 X4 k) acc.2.2.1) (g2 arg6 X6) (t2 arg5 X5 k)⟩,
      ⟨Rect.unit (k0_off3 k) ![128, 128] (k0_off3_inb k), finish (preOut (c1 (k0_pay9 k0_pay2 (fb arg3 X3 k))) (c1 (fb arg3 X3 k)) (t1 arg2 X2 k) (t1 arg4 X4 k) acc.2.1) (g1 arg6 X6) (t1 arg5 X5 k)⟩,
      ⟨Rect.unit (k0_off2 k) ![128, 128] (k0_off2_inb k), finish (preOut (c0 (k0_pay9 k0_pay2 (fb arg3 X3 k))) (c0 (fb arg3 X3 k)) (t0 arg2 X2 k) (t0 arg4 X4 k) acc.1) (g0 arg6 X6) (t0 arg5 X5 k)⟩] := by
  unfold tripL_k0_t1
  unfold trip_k0_t1
  dsimp only
  rfl

end Cert.KernelIdeal.Trip

end
-- ==== Proof.RecMath.lean ====
/- The recurrence over the reals: one cell of the state, and its closed form over a chunk of consecutive steps. -/
module

public import Idealize.ShloMosaic.Lib.Pointwise
public import Mathlib.Analysis.SpecialFunctions.Log.Basic

@[expose] public section

noncomputable section

namespace Cert.Rec

open Finset

/-- One cell of the state after `t` steps: gate `f`, input `u`. -/
def cell (f u : ℕ → ℝ) : ℕ → ℝ
  | 0 => 0
  | t + 1 => f t * cell f u t + (1 - f t) * u t

/-- The sum of the logarithms of the `n` gates from step `t` on. -/
def lsum (f : ℕ → ℝ) (t n : ℕ) : ℝ := ∑ s ∈ range n, Real.log (f (t + s))

/-- The state `n` steps on, by the sums of logarithms: the old state decayed, and each input decayed from its step on. -/
theorem cell_add (f u : ℕ → ℝ) (hf : ∀ t, 0 < f t) (t n : ℕ) :
    cell f u (t + n) = Real.exp (lsum f t n) * cell f u t
      + ∑ s ∈ range n, Real.exp (lsum f t n - lsum f t (s + 1)) * ((1 - f (t + s)) * u (t + s)) := by
  induction n with
  | zero => simp [lsum]
  | succ n ih =>
    have hl : lsum f t (n + 1) = lsum f t n + Real.log (f (t + n)) := by
      unfold lsum; rw [sum_range_succ]
    have he : Real.exp (Real.log (f (t + n))) = f (t + n) := Real.exp_log (hf _)
    rw [← add_assoc, cell, ih, sum_range_succ, sub_self, Real.exp_zero, one_mul, mul_add, ← mul_assoc,
      hl, Real.exp_add, he, mul_sum, add_assoc, mul_comm (f (t + n)) (Real.exp _)]
    congr 2
    refine sum_congr rfl fun s _ => ?_
    rw [show lsum f t n + Real.log (f (t + n)) - lsum f t (s + 1)
      = Real.log (f (t + n)) + (lsum f t n - lsum f t (s + 1)) by ring, Real.exp_add, he]
    ring

/-- The inclusive sum of the logarithms of a chunk of 128 gates from step `t`, at row `r`, written with a mask. -/
def bsum (f : ℕ → ℝ) (t : ℕ) (r : Fin 128) : ℝ :=
  ∑ s : Fin 128, if s ≤ r then Real.log (f (t + s.val)) else 0

/-- A masked sum over the rows of a chunk is the sum over the rows up to and including `r`. -/
theorem sum_mask (g : ℕ → ℝ) (r : Fin 128) :
    (∑ s : Fin 128, if s ≤ r then g s.val else 0) = ∑ s ∈ range (r.val + 1), g s := by
  have h := Fin.sum_univ_eq_sum_range (fun s => if s ≤ r.val then g s else 0) 128
  refine Eq.trans (sum_congr rfl fun s _ => rfl) (h.trans ?_)
  rw [← sum_filter]
  refine sum_congr ?_ fun _ _ => rfl
  ext s
  have := r.isLt
  simp only [mem_filter, mem_range]
  omega

/-- The masked sum is the plain one. -/
theorem bsum_eq (f : ℕ → ℝ) (t : ℕ) (r : Fin 128) : bsum f t r = lsum f t (r.val + 1) :=
  sum_mask (fun s => Real.log (f (t + s))) r

/-- The state after row `r` of a chunk, with the chunk's masked sums. -/
theorem cell_row (f u : ℕ → ℝ) (hf : ∀ t, 0 < f t) (t : ℕ) (r : Fin 128) :
    cell f u (t + r.val + 1) = Real.exp (bsum f t r) * cell f u t
      + ∑ s : Fin 128, if s ≤ r then
          Real.exp (bsum f t r - bsum f t s) * ((1 - f (t + s.val)) * u (t + s.val)) else 0 := by
  rw [add_assoc, cell_add f u hf, bsum_eq]
  congr 1
  rw [← sum_mask (fun s => Real.exp (lsum f t (r.val + 1) - lsum f t (s + 1)) * ((1 - f (t + s)) * u (t + s))) r]
  refine sum_congr rfl fun s _ => ?_
  rw [bsum_eq]

/-- The kernel's output of a row, before the normalisation, is the query times the state after the row. -/
theorem out_row (q : Fin 128 → ℝ) (f : ℕ → Fin 128 → ℝ) (u : ℕ → ℝ) (hf : ∀ t k, 0 < f t k) (t : ℕ) (r : Fin 128)
    (mid : Fin 128 → ℝ) :
    (∑ s : Fin 128, (if s ≤ r then
        ∑ k : Fin 128, (q k * Real.exp (bsum (f · k) t r - mid k))
          * ((1 - f (t + s.val) k) * Real.exp (mid k - bsum (f · k) t s)) else 0) * u (t + s.val))
      + ∑ k : Fin 128, (q k * Real.exp (bsum (f · k) t r)) * cell (f · k) u t
    = ∑ k : Fin 128, q k * cell (f · k) u (t + r.val + 1) := by
  have h : ∀ k, q k * cell (f · k) u (t + r.val + 1)
      = (∑ s : Fin 128, if s ≤ r then (q k * Real.exp (bsum (f · k) t r - mid k))
          * ((1 - f (t + s.val) k) * Real.exp (mid k - bsum (f · k) t s)) * u (t + s.val) else 0)
        + (q k * Real.exp (bsum (f · k) t r)) * cell (f · k) u t := by
    intro k
    rw [cell_row (f · k) u (fun t => hf t k) t r, mul_add, add_comm, mul_sum, ← mul_assoc]
    congr 1
    refine sum_congr rfl fun s _ => ?_
    split_ifs
    · rw [show bsum (f · k) t r - bsum (f · k) t s
        = (bsum (f · k) t r - mid k) + (mid k - bsum (f · k) t s) by ring, Real.exp_add]
      ring
    · rw [mul_zero]
  rw [sum_congr rfl fun k _ => h k, sum_add_distrib, sum_comm]
  congr 1
  refine sum_congr rfl fun s _ => ?_
  split_ifs
  · rw [sum_mul]
  · simp

/-- The kernel's state after a chunk is the state 128 steps on. -/
theorem state_chunk (f u : ℕ → ℝ) (hf : ∀ t, 0 < f t) (t : ℕ) :
    cell f u t * Real.exp (bsum f t 127)
      + ∑ s : Fin 128, u (t + s.val) * ((1 - f (t + s.val)) * Real.exp (bsum f t 127 - bsum f t s))
    = cell f u (t + 128) := by
  have h := cell_row f u hf t 127
  rw [show t + ((127 : Fin 128) : Fin 128).val + 1 = t + 128 from rfl] at h
  rw [h, mul_comm]
  congr 1
  refine sum_congr rfl fun s _ => ?_
  rw [if_pos (show s ≤ (127 : Fin 128) by omega)]
  ring

/-- A finite sum of reals, read as extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [sum_insert ha, sum_insert ha, EReal.coe_add, ih]

end Cert.Rec

end
-- ==== Proof.TripValue.lean ====
/- One trip's tiles at an index, over the reals. -/
module

public import proofs.«01_k».proof.Proof.Trip
public import proofs.«01_k».proof.Proof.RecMath
public import Idealize.ShloMosaic.Lib.Pointwise

@[expose] public section

set_option maxRecDepth 8192

noncomputable section

namespace Cert.KernelIdeal.Trip

open Cert.KernelIdeal Cert.KernelIdeal.Gen Cert.Rec Idealize.ShloMosaic Idealize.ShloMosaic.TcCoe
open Facts

/-- The causal mask's bit, as a choice on the row numbers. -/
theorem mask_apply {α : Type} (r s : Fin 128) (x y : α) :
    Scalar.select (IntOp.cmpi CmpIPredicate.sge (BitVec.ofNat 32 r.val) (BitVec.ofNat 32 s.val)) x y = if s ≤ r then x else y := by
  have h : ∀ r s : Fin 128, IntOp.cmpi CmpIPredicate.sge (BitVec.ofNat 32 r.val) (BitVec.ofNat 32 s.val) = if s ≤ r then 1#1 else 0#1 := by
    decide +kernel
  rw [h]
  by_cases hs : s ≤ r
  · rw [if_pos hs, if_pos hs]; rfl
  · rw [if_neg hs, if_neg hs]; rfl

/-- The chunk's sums of logarithms, where the gates are positive reals. -/
theorem pay9_apply (x : FVec Ideal S128x512 .f32) (f : Fin 128 → Fin 512 → ℝ) (hf : ∀ r c, 0 < f r c)
    (hx : ∀ r c, x (ix2 r c) = (f r c : EReal)) (r : Fin 128) (c : Fin 512) :
    k0_pay9 (F := Ideal) k0_pay2 x (ix2 r c) = ((∑ s : Fin 128, if s ≤ r then Real.log (f s c) else 0 : ℝ) : EReal) := by
  pointwise [k0_pay9, k0_pay2, k0_pay1]
  have hl : ∀ s, Ideal.log (x (ix2 s c)) = ((Real.log (f s c) : ℝ) : EReal) := fun s => by
    rw [hx, Ideal.log_coe, if_neg (not_le.2 (hf s c))]
  have h0 : ∀ L : ℝ, (L : EReal) - L = 0 := fun L => by
    rw [← EReal.coe_sub, _root_.sub_self, EReal.coe_zero]
  simp only [mask_apply, hl, h0, sub_zero, ite_self, Finset.sum_const_zero, add_zero, coe_sum]
  refine Finset.sum_congr rfl fun s _ => ?_
  split_ifs
  · rfl
  · rw [EReal.coe_zero]

/-- A head's output before the normalisation, over the reals. -/
theorem preOut_apply (b f : FVec Ideal S128x128 .f32) (q v : FVec Ideal S128x128 .bf16) (st : FVec Ideal S128x128 .f32)
    (B F Q V S : Fin 128 → Fin 128 → ℝ) (hb : ∀ r k, b (ix2 r k) = (B r k : EReal)) (hf : ∀ r k, f (ix2 r k) = (F r k : EReal))
    (hq : ∀ r k, q (ix2 r k) = (Q r k : EReal)) (hv : ∀ r k, v (ix2 r k) = (V r k : EReal))
    (hs : ∀ r k, st (ix2 r k) = (S r k : EReal)) (r c : Fin 128) :
    preOut b f q v st (ix2 r c) = (((∑ s : Fin 128, (if s ≤ r then
        ∑ k : Fin 128, (Q r k * Real.exp (B r k - B 63 k)) * ((1 - F s k) * Real.exp (B 63 k - B s k)) else 0) * V s c)
      + ∑ k : Fin 128, (Q r k * Real.exp (B r k)) * S c k : ℝ) : EReal) := by
  pointwise [preOut, scores, keys, rows, mid, k0_pay1]
  simp only [mask_apply, hb, hf, hq, hv, hs, EReal.coe_add, coe_sum, EReal.coe_mul]
  congr 1
  · refine Finset.sum_congr rfl fun s _ => ?_
    split_ifs
    · rw [coe_sum]
      congr 1

    · rw [EReal.coe_zero, zero_mul]

/-- A head's state after the chunk, over the reals. -/
theorem newSt_apply (b f : FVec Ideal S128x128 .f32) (v : FVec Ideal S128x128 .bf16) (st : FVec Ideal S128x128 .f32)
    (B F V S : Fin 128 → Fin 128 → ℝ) (hb : ∀ r k, b (ix2 r k) = (B r k : EReal)) (hf : ∀ r k, f (ix2 r k) = (F r k : EReal))
    (hv : ∀ r k, v (ix2 r k) = (V r k : EReal)) (hs : ∀ r k, st (ix2 r k) = (S r k : EReal)) (r c : Fin 128) :
    newSt b f v st (ix2 r c) = ((S r c * Real.exp (B 127 c)
      + ∑ s : Fin 128, V s r * ((1 - F s c) * Real.exp (B 127 c - B s c)) : ℝ) : EReal) := by
  pointwise [newSt, keys, rows, last]
  simp only [hb, hf, hv, hs, EReal.coe_add, coe_sum, EReal.coe_mul]
  rfl

end Cert.KernelIdeal.Trip

end
-- ==== Proof.Loop.lean ====
/- The chunk loop over the reals: the states it carries and the block it leaves. -/
module

public import proofs.«01_k».proof.Proof.TripValue
public import Idealize.ShloMosaic.Lib.WholeRead

@[expose] public section

set_option maxRecDepth 8192
set_option maxHeartbeats 400000

noncomputable section

namespace Cert.KernelIdeal.Trip

open Cert.KernelIdeal Cert.KernelIdeal.Gen Cert.Rec Idealize.ShloMosaic Idealize.ShloMosaic.TcCoe
open Facts

/-- A head's output before the normalisation at a row and a column of the block: the query against the state after the row. -/
def oR (Q F V : ℕ → ℕ → ℝ) (r col : ℕ) : ℝ :=
  ∑ k : Fin 128, Q r (128 * (col / 128) + k.val) * cell (fun t => F t (128 * (col / 128) + k.val)) (fun t => V t col) (r + 1)

/-- The normalised, scaled and gated output from the values of the whole head's row. -/
def gateR (o : ℕ → ℝ) (j : ℕ) (g sg : EReal) : EReal :=
  (o j : EReal) * Ideal.rsqrt (Ideal.div (∑ x : Fin 128, (o x.val : EReal) * (o x.val : EReal)) (Ideal.ofBits .f32 1124073472#32)
    + Ideal.ofBits .f32 897988541#32) * g * sg

/-- What the block holds in the end. -/
def blockOut (Q F V : ℕ → ℕ → ℝ) (x3 : Vec Ideal S2048x512 .bf16) (x4 : Vec Ideal S1x512 .f32) : Vec Ideal S2048x512 .bf16 := fun y =>
  gateR (fun j => oR Q F V (y 0).val (128 * ((y 1).val / 128) + j)) ((y 1).val % 128) (x4 (ix2 0 (y 1))) (x3 y)

/-- A head's tile of the output, when its tiles hold the block's values. -/
theorem head_out (Q F V : ℕ → ℕ → ℝ) (hF : ∀ t k, 0 < F t k) (x3 : Vec Ideal S2048x512 .bf16) (x4 : Vec Ideal S1x512 .f32)
    (T h : ℕ) (hT : T + 128 ≤ 2048) (hh : h < 4)
    (b f : FVec Ideal S128x128 .f32) (q v sg : FVec Ideal S128x128 .bf16) (st : FVec Ideal S128x128 .f32) (g : FVec Ideal S1x128 .f32)
    (hb : ∀ r k, b (ix2 r k) = (bsum (fun t => F t (128 * h + k.val)) T r : EReal))
    (hf : ∀ r k, f (ix2 r k) = (F (T + r.val) (128 * h + k.val) : EReal))
    (hq : ∀ r k, q (ix2 r k) = (Q (T + r.val) (128 * h + k.val) : EReal))
    (hv : ∀ r k, v (ix2 r k) = (V (T + r.val) (128 * h + k.val) : EReal))
    (hs : ∀ r k, st (ix2 r k) = (cell (fun t => F t (128 * h + k.val)) (fun t => V t (128 * h + r.val)) T : EReal))
    (hsg : ∀ (r c : Fin 128), sg (ix2 r c) = x3 (ix2 ⟨T + r.val, by omega⟩ ⟨128 * h + c.val, by omega⟩))
    (hg : ∀ (c : Fin 128), g (ix2 0 c) = x4 (ix2 0 ⟨128 * h + c.val, by omega⟩)) (r c : Fin 128) :
    finish (preOut b f q v st) g sg (ix2 r c)
      = blockOut Q F V x3 x4 (ix2 ⟨T + r.val, by omega⟩ ⟨128 * h + c.val, by omega⟩) := by
  have ho : ∀ r c : Fin 128, preOut b f q v st (ix2 r c) = (oR Q F V (T + r.val) (128 * h + c.val) : EReal) := fun r c => by
    rw [preOut_apply b f q v st _ _ _ _ _ hb hf hq hv hs]
    have := out_row (fun k => Q (T + r.val) (128 * h + k.val)) (fun t k => F t (128 * h + k.val)) (fun t => V t (128 * h + c.val))
      (fun t k => hF _ _) T r (fun k => bsum (fun t => F t (128 * h + k.val)) T 63)
    refine congrArg _ (this.trans ?_)
    unfold oR
    rw [show (128 * h + c.val) / 128 = h by omega]
  have hfin : finish (preOut b f q v st) g sg (ix2 r c) = preOut b f q v st (ix2 r c) *
      Ideal.rsqrt (Ideal.div (∑ x, preOut b f q v st (ix2 r x) * preOut b f q v st (ix2 r x)) (Ideal.ofBits .f32 1124073472#32)
        + Ideal.ofBits .f32 897988541#32) * g (ix2 0 c) * sg (ix2 r c) := by
    generalize preOut b f q v st = o
    pointwise [finish]
  rw [hfin]
  simp only [ho, hg, hsg]
  unfold blockOut gateR
  have e1 : ((ix2 (⟨T + r.val, by omega⟩ : Fin 2048) (⟨128 * h + c.val, by omega⟩ : Fin 512)) 1).val = 128 * h + c.val := rfl
  have e0 : ((ix2 (⟨T + r.val, by omega⟩ : Fin 2048) (⟨128 * h + c.val, by omega⟩ : Fin 512)) 0).val = T + r.val := rfl
  rw [e1, e0, show (128 * h + c.val) / 128 = h by omega, show (128 * h + c.val) % 128 = c.val by omega]
  rfl

/-- A head's state after the chunk, when its tiles hold the block's values. -/
theorem head_state (F V : ℕ → ℕ → ℝ) (hF : ∀ t k, 0 < F t k) (T h : ℕ)
    (b f : FVec Ideal S128x128 .f32) (v : FVec Ideal S128x128 .bf16) (st : FVec Ideal S128x128 .f32)
    (hb : ∀ r k, b (ix2 r k) = (bsum (fun t => F t (128 * h + k.val)) T r : EReal))
    (hf : ∀ r k, f (ix2 r k) = (F (T + r.val) (128 * h + k.val) : EReal))
    (hv : ∀ r k, v (ix2 r k) = (V (T + r.val) (128 * h + k.val) : EReal))
    (hs : ∀ r k, st (ix2 r k) = (cell (fun t => F t (128 * h + k.val)) (fun t => V t (128 * h + r.val)) T : EReal)) (r c : Fin 128) :
    newSt b f v st (ix2 r c) = (cell (fun t => F t (128 * h + c.val)) (fun t => V t (128 * h + r.val)) (T + 128) : EReal) := by
  rw [newSt_apply b f v st _ _ _ _ hb hf hv hs]
  exact congrArg _ (state_chunk (fun t => F t (128 * h + c.val)) (fun t => V t (128 * h + r.val)) (fun t => hF _ _) T)

/-- There are sixteen chunks. -/
theorem trips_eq : k0_t1_loop.trips = 16 := by decide +kernel
theorem off1 : ∀ k : Fin k0_t1_loop.trips, k0_off1 k = ![128 * k.val, 0] := by decide +kernel
theorem off2 : ∀ k : Fin k0_t1_loop.trips, k0_off2 k = ![128 * k.val, 128 * 0] := by decide +kernel
theorem off3 : ∀ k : Fin k0_t1_loop.trips, k0_off3 k = ![128 * k.val, 128 * 1] := by decide +kernel
theorem off4 : ∀ k : Fin k0_t1_loop.trips, k0_off4 k = ![128 * k.val, 128 * 2] := by decide +kernel
theorem off5 : ∀ k : Fin k0_t1_loop.trips, k0_off5 k = ![128 * k.val, 128 * 3] := by decide +kernel

/-- The gates' chunk at an index. -/
theorem fb_apply (a : Memref sig .tc .vmem S2048x512 .f32) (ha : a.IsWhole) (x : Vec Ideal S2048x512 .f32) (k : Fin k0_t1_loop.trips)
    (r : Fin 128) (c : Fin 512) :
    fb a (ha.unread x) k (ix2 r c) = x (ix2 ⟨128 * k.val + r.val, by have := lt_of_lt_of_eq k.isLt trips_eq; omega⟩ c) := by
  refine (ha.readAt_unread x _ _).trans (congrArg x (funext fun d => Fin.ext ?_))
  match d with
  | 0 =>
    show k0_off1 k 0 + 1 * r.val = 128 * k.val + r.val
    rw [off1 k]; simp
  | 1 =>
    show k0_off1 k 1 + 1 * c.val = c.val
    rw [off1 k]; simp

/-- Head 0's tile of a chunk at an index. -/
theorem t0_apply (a : Memref sig .tc .vmem S2048x512 .bf16) (ha : a.IsWhole) (x : Vec Ideal S2048x512 .bf16) (k : Fin k0_t1_loop.trips)
    (r c : Fin 128) :
    t0 a (ha.unread x) k (ix2 r c) = x (ix2 ⟨128 * k.val + r.val, by have := lt_of_lt_of_eq k.isLt trips_eq; omega⟩ ⟨128 * 0 + c.val, by omega⟩) := by
  refine (ha.readAt_unread x _ _).trans (congrArg x (funext fun d => Fin.ext ?_))
  match d with
  | 0 =>
    show k0_off2 k 0 + 1 * r.val = 128 * k.val + r.val
    rw [off2 k]; simp
  | 1 =>
    show k0_off2 k 1 + 1 * c.val = 128 * 0 + c.val
    rw [off2 k]; simp

/-- Head 0's scale at an index. -/
theorem g0_apply (a : Memref sig .tc .vmem S1x512 .f32) (ha : a.IsWhole) (x : Vec Ideal S1x512 .f32) (c : Fin 128) :
    g0 a (ha.unread x) (ix2 0 c) = x (ix2 0 ⟨128 * 0 + c.val, by omega⟩) := by
  refine (ha.readAt_unread x _ _).trans (congrArg x (funext fun d => Fin.ext ?_))
  match d with
  | 0 => rfl
  | 1 =>
    show 0 + 1 * c.val = 128 * 0 + c.val
    omega

/-- Head 0's columns at an index. -/
theorem c0_apply (x : FVec Ideal S128x512 .f32) (r c : Fin 128) : c0 x (ix2 r c) = x (ix2 r ⟨128 * 0 + c.val, by omega⟩) := by
  pointwise [c0]

/-- Head 1's tile of a chunk at an index. -/
theorem t1_apply (a : Memref sig .tc .vmem S2048x512 .bf16) (ha : a.IsWhole) (x : Vec Ideal S2048x512 .bf16) (k : Fin k0_t1_loop.trips)
    (r c : Fin 128) :
    t1 a (ha.unread x) k (ix2 r c) = x (ix2 ⟨128 * k.val + r.val, by have := lt_of_lt_of_eq k.isLt trips_eq; omega⟩ ⟨128 * 1 + c.val, by omega⟩) := by
  refine (ha.readAt_unread x _ _).trans (congrArg x (funext fun d => Fin.ext ?_))
  match d with
  | 0 =>
    show k0_off3 k 0 + 1 * r.val = 128 * k.val + r.val
    rw [off3 k]; simp
  | 1 =>
    show k0_off3 k 1 + 1 * c.val = 128 * 1 + c.val
    rw [off3 k]; simp

/-- Head 1's scale at an index. -/
theorem g1_apply (a : Memref sig .tc .vmem S1x512 .f32) (ha : a.IsWhole) (x : Vec Ideal S1x512 .f32) (c : Fin 128) :
    g1 a (ha.unread x) (ix2 0 c) = x (ix2 0 ⟨128 * 1 + c.val, by omega⟩) := by
  refine (ha.readAt_unread x _ _).trans (congrArg x (funext fun d => Fin.ext ?_))
  match d with
  | 0 => rfl
  | 1 =>
    show 128 + 1 * c.val = 128 * 1 + c.val
    omega

/-- Head 1's columns at an index. -/
theorem c1_apply (x : FVec Ideal S128x512 .f32) (r c : Fin 128) : c1 x (ix2 r c) = x (ix2 r ⟨128 * 1 + c.val, by omega⟩) := by
  pointwise [c1]

/-- Head 2's tile of a chunk at an index. -/
theorem t2_apply (a : Memref sig .tc .vmem S2048x512 .bf16) (ha : a.IsWhole) (x : Vec Ideal S2048x512 .bf16) (k : Fin k0_t1_loop.trips)
    (r c : Fin 128) :
    t2 a (ha.unread x) k (ix2 r c) = x (ix2 ⟨128 * k.val + r.val, by have := lt_of_lt_of_eq k.isLt trips_eq; omega⟩ ⟨128 * 2 + c.val, by omega⟩) := by
  refine (ha.readAt_unread x _ _).trans (congrArg x (funext fun d => Fin.ext ?_))
  match d with
  | 0 =>
    show k0_off4 k 0 + 1 * r.val = 128 * k.val + r.val
    rw [off4 k]; simp
  | 1 =>
    show k0_off4 k 1 + 1 * c.val = 128 * 2 + c.val
    rw [off4 k]; simp

/-- Head 2's scale at an index. -/
theorem g2_apply (a : Memref sig .tc .vmem S1x512 .f32) (ha : a.IsWhole) (x : Vec Ideal S1x512 .f32) (c : Fin 128) :
    g2 a (ha.unread x) (ix2 0 c) = x (ix2 0 ⟨128 * 2 + c.val, by omega⟩) := by
  refine (ha.readAt_unread x _ _).trans (congrArg x (funext fun d => Fin.ext ?_))
  match d with
  | 0 => rfl
  | 1 =>
    show 256 + 1 * c.val = 128 * 2 + c.val
    omega

/-- Head 2's columns at an index. -/
theorem c2_apply (x : FVec Ideal S128x512 .f32) (r c : Fin 128) : c2 x (ix2 r c) = x (ix2 r ⟨128 * 2 + c.val, by omega⟩) := by
  pointwise [c2]

/-- Head 3's tile of a chunk at an index. -/
theorem t3_apply (a : Memref sig .tc .vmem S2048x512 .bf16) (ha : a.IsWhole) (x : Vec Ideal S2048x512 .bf16) (k : Fin k0_t1_loop.trips)
    (r c : Fin 128) :
    t3 a (ha.unread x) k (ix2 r c) = x (ix2 ⟨128 * k.val + r.val, by have := lt_of_lt_of_eq k.isLt trips_eq; omega⟩ ⟨128 * 3 + c.val, by omega⟩) := by
  refine (ha.readAt_unread x _ _).trans (congrArg x (funext fun d => Fin.ext ?_))
  match d with
  | 0 =>
    show k0_off5 k 0 + 1 * r.val = 128 * k.val + r.val
    rw [off5 k]; simp
  | 1 =>
    show k0_off5 k 1 + 1 * c.val = 128 * 3 + c.val
    rw [off5 k]; simp

/-- Head 3's scale at an index. -/
theorem g3_apply (a : Memref sig .tc .vmem S1x512 .f32) (ha : a.IsWhole) (x : Vec Ideal S1x512 .f32) (c : Fin 128) :
    g3 a (ha.unread x) (ix2 0 c) = x (ix2 0 ⟨128 * 3 + c.val, by omega⟩) := by
  refine (ha.readAt_unread x _ _).trans (congrArg x (funext fun d => Fin.ext ?_))
  match d with
  | 0 => rfl
  | 1 =>
    show 384 + 1 * c.val = 128 * 3 + c.val
    omega

/-- Head 3's columns at an index. -/
theorem c3_apply (x : FVec Ideal S128x512 .f32) (r c : Fin 128) : c3 x (ix2 r c) = x (ix2 r ⟨128 * 3 + c.val, by omega⟩) := by
  pointwise [c3]

/-- The four states hold the recurrence's at time `T`. -/
def Carries (F V : ℕ → ℕ → ℝ) (T : ℕ) (acc : FVec Ideal S128x128 .f32 × FVec Ideal S128x128 .f32 × FVec Ideal S128x128 .f32 × FVec Ideal S128x128 .f32) : Prop :=
  (∀ r k : Fin 128, acc.1 (ix2 r k) = (cell (fun t => F t (128 * 0 + k.val)) (fun t => V t (128 * 0 + r.val)) T : EReal)) ∧
  (∀ r k : Fin 128, acc.2.1 (ix2 r k) = (cell (fun t => F t (128 * 1 + k.val)) (fun t => V t (128 * 1 + r.val)) T : EReal)) ∧
  (∀ r k : Fin 128, acc.2.2.1 (ix2 r k) = (cell (fun t => F t (128 * 2 + k.val)) (fun t => V t (128 * 2 + r.val)) T : EReal)) ∧
  (∀ r k : Fin 128, acc.2.2.2 (ix2 r k) = (cell (fun t => F t (128 * 3 + k.val)) (fun t => V t (128 * 3 + r.val)) T : EReal))

section
variable (𝒱 : Variants) (c : Dev nD) (bd : Option 𝒱.V) (i : grid0.Coords) (arg2 : Memref sig .tc .vmem S2048x512 .bf16) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S2048x512 .bf16) (harg7 : arg7.IsWhole)
  (x0 : Vec Ideal S2048x512 .bf16) (x1 : Vec Ideal S2048x512 .f32) (x2 x3 : Vec Ideal S2048x512 .bf16) (x4 : Vec Ideal S1x512 .f32)
  (Q F V : ℕ → ℕ → ℝ) (hF : ∀ t k, 0 < F t k)
  (hx0 : ∀ (r : Fin 2048) (c : Fin 512), x0 (ix2 r c) = (Q r.val c.val : EReal))
  (hx1 : ∀ (r : Fin 2048) (c : Fin 512), x1 (ix2 r c) = (F r.val c.val : EReal))
  (hx2 : ∀ (r : Fin 2048) (c : Fin 512), x2 (ix2 r c) = (V r.val c.val : EReal))
include hF hx1

/-- A chunk's sums of logarithms. -/
theorem logs_apply (k : Fin k0_t1_loop.trips) (r : Fin 128) (c : Fin 512) :
    k0_pay9 (F := Ideal) k0_pay2 (fb arg3 (harg3.unread x1) k) (ix2 r c) = (bsum (fun t => F t c.val) (128 * k.val) r : EReal) :=
  pay9_apply _ (fun r c => F (128 * k.val + r.val) c.val) (fun r c => hF _ _) (fun r c => by rw [fb_apply, hx1]) r c

include hx2
/-- A trip takes the states one chunk on. -/
theorem trip_state (k : Fin k0_t1_loop.trips) (acc : FVec Ideal S128x128 .f32 × FVec Ideal S128x128 .f32 × FVec Ideal S128x128 .f32 × FVec Ideal S128x128 .f32)
    (hacc : Carries F V (128 * k.val) acc) :
    Carries F V (128 * (k.val + 1)) (tripR_k0_t1 (F := Ideal) 𝒱 c bd i arg2 harg2 arg3 harg3 arg4 harg4 arg5 harg5 arg6 harg6 arg7 harg7
      (harg2.unread x0) (harg3.unread x1) (harg4.unread x2) (harg5.unread x3) (harg6.unread x4) k acc) := by
  rw [tripR_eq]
  obtain ⟨h0, h1, h2, h3⟩ := hacc
  have hL := logs_apply arg3 harg3 x1 F hF hx1 k
  refine ⟨?_, ?_, ?_, ?_⟩
  · exact fun r j => head_state F V hF (128 * k.val) 0 _ _ _ _ (fun r j => by rw [c0_apply, hL])
      (fun r j => by rw [c0_apply, fb_apply, hx1]) (fun r j => by rw [t0_apply, hx2]) h0 r j
  · exact fun r j => head_state F V hF (128 * k.val) 1 _ _ _ _ (fun r j => by rw [c1_apply, hL])
      (fun r j => by rw [c1_apply, fb_apply, hx1]) (fun r j => by rw [t1_apply, hx2]) h1 r j
  · exact fun r j => head_state F V hF (128 * k.val) 2 _ _ _ _ (fun r j => by rw [c2_apply, hL])
      (fun r j => by rw [c2_apply, fb_apply, hx1]) (fun r j => by rw [t2_apply, hx2]) h2 r j
  · exact fun r j => head_state F V hF (128 * k.val) 3 _ _ _ _ (fun r j => by rw [c3_apply, hL])
      (fun r j => by rw [c3_apply, fb_apply, hx1]) (fun r j => by rw [t3_apply, hx2]) h3 r j

include hx0
/-- A trip's stores hold the block's values. -/
theorem trip_pieces (k : Fin k0_t1_loop.trips) (acc : FVec Ideal S128x128 .f32 × FVec Ideal S128x128 .f32 × FVec Ideal S128x128 .f32 × FVec Ideal S128x128 .f32)
    (hacc : Carries F V (128 * k.val) acc) :
    ∀ p ∈ tripL_k0_t1 (F := Ideal) 𝒱 c bd i arg2 harg2 arg3 harg3 arg4 harg4 arg5 harg5 arg6 harg6 arg7 harg7
      (harg2.unread x0) (harg3.unread x1) (harg4.unread x2) (harg5.unread x3) (harg6.unread x4) k acc,
      ∀ x : p.1.shape.Idx, p.2 x = blockOut Q F V x3 x4 (p.1.emb x) := by
  rw [tripL_eq]
  obtain ⟨h0, h1, h2, h3⟩ := hacc
  have hL := logs_apply arg3 harg3 x1 F hF hx1 k
  have hk : 128 * k.val + 128 ≤ 2048 := by have := lt_of_lt_of_eq k.isLt trips_eq; omega
  intro p hp
  simp only [List.mem_cons, List.not_mem_nil, or_false] at hp
  rcases hp with rfl | rfl | rfl | rfl
  · intro x
    refine ((congrArg _ (eq_ix2 x)).trans (head_out Q F V hF x3 x4 (128 * k.val) 3 hk (by omega) _ _ _ _ _ _ _ (fun r j => by rw [c3_apply, hL])
      (fun r j => by rw [c3_apply, fb_apply, hx1]) (fun r j => by rw [t3_apply, hx0]) (fun r j => by rw [t3_apply, hx2]) h3
      (fun r j => by rw [t3_apply]) (fun j => by rw [g3_apply]) (x 0) (x 1))).trans (congrArg _ (funext fun d => Fin.ext ?_))
    match d with
    | 0 =>
      show 128 * k.val + (x 0).val = k0_off5 k 0 + 1 * (x 0).val
      have e : k0_off5 k 0 = 128 * k.val := by rw [off5 k]; rfl
      rw [e]; omega
    | 1 =>
      show 128 * 3 + (x 1).val = k0_off5 k 1 + 1 * (x 1).val
      have e : k0_off5 k 1 = 128 * 3 := by rw [off5 k]; rfl
      rw [e]; omega
  · intro x
    refine ((congrArg _ (eq_ix2 x)).trans (head_out Q F V hF x3 x4 (128 * k.val) 2 hk (by omega) _ _ _ _ _ _ _ (fun r j => by rw [c2_apply, hL])
      (fun r j => by rw [c2_apply, fb_apply, hx1]) (fun r j => by rw [t2_apply, hx0]) (fun r j => by rw [t2_apply, hx2]) h2
      (fun r j => by rw [t2_apply]) (fun j => by rw [g2_apply]) (x 0) (x 1))).trans (congrArg _ (funext fun d => Fin.ext ?_))
    match d with
    | 0 =>
      show 128 * k.val + (x 0).val = k0_off4 k 0 + 1 * (x 0).val
      have e : k0_off4 k 0 = 128 * k.val := by rw [off4 k]; rfl
      rw [e]; omega
    | 1 =>
      show 128 * 2 + (x 1).val = k0_off4 k 1 + 1 * (x 1).val
      have e : k0_off4 k 1 = 128 * 2 := by rw [off4 k]; rfl
      rw [e]; omega
  · intro x
    refine ((congrArg _ (eq_ix2 x)).trans (head_out Q F V hF x3 x4 (128 * k.val) 1 hk (by omega) _ _ _ _ _ _ _ (fun r j => by rw [c1_apply, hL])
      (fun r j => by rw [c1_apply, fb_apply, hx1]) (fun r j => by rw [t1_apply, hx0]) (fun r j => by rw [t1_apply, hx2]) h1
      (fun r j => by rw [t1_apply]) (fun j => by rw [g1_apply]) (x 0) (x 1))).trans (congrArg _ (funext fun d => Fin.ext ?_))
    match d with
    | 0 =>
      show 128 * k.val + (x 0).val = k0_off3 k 0 + 1 * (x 0).val
      have e : k0_off3 k 0 = 128 * k.val := by rw [off3 k]; rfl
      rw [e]; omega
    | 1 =>
      show 128 * 1 + (x 1).val = k0_off3 k 1 + 1 * (x 1).val
      have e : k0_off3 k 1 = 128 * 1 := by rw [off3 k]; rfl
      rw [e]; omega
  · intro x
    refine ((congrArg _ (eq_ix2 x)).trans (head_out Q F V hF x3 x4 (128 * k.val) 0 hk (by omega) _ _ _ _ _ _ _ (fun r j => by rw [c0_apply, hL])
      (fun r j => by rw [c0_apply, fb_apply, hx1]) (fun r j => by rw [t0_apply, hx0]) (fun r j => by rw [t0_apply, hx2]) h0
      (fun r j => by rw [t0_apply]) (fun j => by rw [g0_apply]) (x 0) (x 1))).trans (congrArg _ (funext fun d => Fin.ext ?_))
    match d with
    | 0 =>
      show 128 * k.val + (x 0).val = k0_off2 k 0 + 1 * (x 0).val
      have e : k0_off2 k 0 = 128 * k.val := by rw [off2 k]; rfl
      rw [e]; omega
    | 1 =>
      show 128 * 0 + (x 1).val = k0_off2 k 1 + 1 * (x 1).val
      have e : k0_off2 k 1 = 128 * 0 := by rw [off2 k]; rfl
      rw [e]; omega

/-- Before each trip the states are the recurrence's and the stores so far hold the block's values. -/
theorem loop_inv (k : ℕ) (hk : k ≤ 16) :
    Carries F V (128 * k) (st_k0_t1 (F := Ideal) 𝒱 c bd i arg2 harg2 arg3 harg3 arg4 harg4 arg5 harg5 arg6 harg6 arg7 harg7
      (harg2.unread x0) (harg3.unread x1) (harg4.unread x2) (harg5.unread x3) (harg6.unread x4) (k0_pay3, k0_pay4, k0_pay5, k0_pay6) k).1
    ∧ ∀ p ∈ (st_k0_t1 (F := Ideal) 𝒱 c bd i arg2 harg2 arg3 harg3 arg4 harg4 arg5 harg5 arg6 harg6 arg7 harg7
      (harg2.unread x0) (harg3.unread x1) (harg4.unread x2) (harg5.unread x3) (harg6.unread x4) (k0_pay3, k0_pay4, k0_pay5, k0_pay6) k).2,
      ∀ x : p.1.shape.Idx, p.2 x = blockOut Q F V x3 x4 (p.1.emb x) := by
  induction k with
  | zero =>
    refine ⟨⟨?_, ?_, ?_, ?_⟩, fun p hp => absurd hp List.not_mem_nil⟩
    all_goals
      intro r j
      show Ideal.ofBits .f32 0x00000000#32 = ((0 : ℝ) : EReal)
      simp
  | succ k ih =>
    obtain ⟨ih1, ih2⟩ := ih (by omega)
    have hk' : k < k0_t1_loop.trips := by rw [trips_eq]; omega
    have e := st_k0_t1_succ (F := Ideal) 𝒱 c bd i arg2 harg2 arg3 harg3 arg4 harg4 arg5 harg5 arg6 harg6 arg7 harg7
      (harg2.unread x0) (harg3.unread x1) (harg4.unread x2) (harg5.unread x3) (harg6.unread x4) (k0_pay3, k0_pay4, k0_pay5, k0_pay6) ⟨k, hk'⟩
    rw [e]
    refine ⟨trip_state 𝒱 c bd i arg2 harg2 arg3 harg3 arg4 harg4 arg5 harg5 arg6 harg6 arg7 harg7 x0 x1 x2 x3 x4 F V hF hx1 hx2 ⟨k, hk'⟩ _ ih1, fun p hp => ?_⟩
    rcases List.mem_append.1 hp with hp | hp
    · exact trip_pieces 𝒱 c bd i arg2 harg2 arg3 harg3 arg4 harg4 arg5 harg5 arg6 harg6 arg7 harg7 x0 x1 x2 x3 x4 Q F V hF hx0 hx1 hx2 ⟨k, hk'⟩ _ ih1 p hp
    · exact ih2 p hp

end

/-- What the body leaves in the output's block, where the queries, gates and values are reals and the gates positive. -/
theorem out_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S2048x512 .bf16) (harg7 : arg7.IsWhole)
    (x0 : Vec Ideal S2048x512 .bf16) (x1 : Vec Ideal S2048x512 .f32) (x2 x3 : Vec Ideal S2048x512 .bf16) (x4 : Vec Ideal S1x512 .f32)
    (Q F V : ℕ → ℕ → ℝ) (hF : ∀ t k, 0 < F t k)
    (hx0 : ∀ (r : Fin 2048) (c : Fin 512), x0 (ix2 r c) = (Q r.val c.val : EReal))
    (hx1 : ∀ (r : Fin 2048) (c : Fin 512), x1 (ix2 r c) = (F r.val c.val : EReal))
    (hx2 : ∀ (r : Fin 2048) (c : Fin 512), x2 (ix2 r c) = (V r.val c.val : EReal)) :
    out0_A_5 (F := Ideal) c i arg2 harg2 arg3 harg3 arg4 harg4 arg5 harg5 arg6 harg6 arg7 harg7 x0 x1 x2 x3 x4 = blockOut Q F V x3 x4 := by
  funext y
  unfold out0_A_5
  refine View.read_writes_apply_of_pieces _ _ (blockOut Q F V x3 x4) _ ?_ y (cover0_A_5 c i arg2 harg2 arg3 harg3 arg4 harg4 arg5 harg5 arg6 harg6 arg7 harg7 x0 x1 x2 x3 x4 y)
  have e : (kernelRun0_A (F := Ideal) c i arg2 harg2 arg3 harg3 arg4 harg4 arg5 harg5 arg6 harg6 arg7 harg7 x0 x1 x2 x3 x4).1
      = (st_k0_t1 (F := Ideal) Variants.none c none i arg2 harg2 arg3 harg3 arg4 harg4 arg5 harg5 arg6 harg6 arg7 harg7
        (harg2.unread x0) (harg3.unread x1) (harg4.unread x2) (harg5.unread x3) (harg6.unread x4) (k0_pay3, k0_pay4, k0_pay5, k0_pay6) 16).2 := by
    unfold kernelRun0_A
    rfl
  rw [e]
  exact (loop_inv Variants.none c none i arg2 harg2 arg3 harg3 arg4 harg4 arg5 harg5 arg6 harg6 arg7 harg7 x0 x1 x2 x3 x4 Q F V hF hx0 hx1 hx2 16 le_rfl).2

end Cert.KernelIdeal.Trip

end
-- ==== Proof.Blocks.lean ====
/- The kernel's result array: every block of it, and so the whole. -/
module

public import proofs.«01_k».proof.Proof.Loop

@[expose] public section

set_option maxRecDepth 8192
set_option maxHeartbeats 400000

noncomputable section

namespace Cert.KernelIdeal.Trip

open Cert.KernelIdeal Cert.KernelIdeal.Gen Cert.Rec Idealize.ShloMosaic Idealize.ShloMosaic.TcCoe
open Facts

/-- The recurrence's output before the normalisation, at a row and a column of the whole array: 8 sequences of 2048 rows, 8 heads of
    128 columns. -/
def oG (Q F V : ℕ → ℕ → ℝ) (r col : ℕ) : ℝ :=
  ∑ k : Fin 128, Q r (128 * (col / 128) + k.val) *
    cell (fun t => F (2048 * (r / 2048) + t) (128 * (col / 128) + k.val)) (fun t => V (2048 * (r / 2048) + t) col) (r % 2048 + 1)

/-- The whole result. -/
def res (Q F V : ℕ → ℕ → ℝ) (g : FVec Ideal ⟨2, ![1, 1024]⟩ .f32) (sg : FVec Ideal ⟨2, ![16384, 1024]⟩ .bf16) : FVec Ideal ⟨2, ![16384, 1024]⟩ .bf16 := fun y =>
  gateR (fun j => oG Q F V (y 0).val (128 * ((y 1).val / 128) + j)) ((y 1).val % 128) (g (ix2 0 (y 1))) (sg y)

/-- A block's row is the array's. -/
theorem oR_eq (Q F V : ℕ → ℕ → ℝ) (a b r col : ℕ) (hr : r < 2048) :
    oR (fun r c => Q (2048 * a + r) (512 * b + c)) (fun r c => F (2048 * a + r) (512 * b + c)) (fun r c => V (2048 * a + r) (512 * b + c)) r col
      = oG Q F V (2048 * a + r) (512 * b + col) := by
  unfold oR oG
  refine Finset.sum_congr rfl fun k _ => ?_
  rw [show (2048 * a + r) / 2048 = a by omega, show (2048 * a + r) % 2048 = r by omega,
    show 128 * ((512 * b + col) / 128) = 512 * b + 128 * (col / 128) by omega]
  simp only [Nat.add_assoc]

/-- A block of the result. -/
theorem blockOut_eq (Q F V : ℕ → ℕ → ℝ) (g : FVec Ideal ⟨2, ![1, 1024]⟩ .f32) (sg : FVec Ideal ⟨2, ![16384, 1024]⟩ .bf16) (a b : ℕ) (ha : a < 8) (hb : b < 2)
    (x3 : Vec Ideal S2048x512 .bf16) (x4 : Vec Ideal S1x512 .f32)
    (h3 : ∀ (r : Fin 2048) (c : Fin 512), x3 (ix2 r c) = sg (ix2 ⟨2048 * a + r.val, by omega⟩ ⟨512 * b + c.val, by omega⟩))
    (h4 : ∀ c : Fin 512, x4 (ix2 0 c) = g (ix2 0 ⟨512 * b + c.val, by omega⟩)) (r : Fin 2048) (c : Fin 512) :
    blockOut (fun r c => Q (2048 * a + r) (512 * b + c)) (fun r c => F (2048 * a + r) (512 * b + c)) (fun r c => V (2048 * a + r) (512 * b + c)) x3 x4 (ix2 r c)
      = res Q F V g sg (ix2 ⟨2048 * a + r.val, by omega⟩ ⟨512 * b + c.val, by omega⟩) := by
  unfold blockOut res
  show gateR (fun j => oR _ _ _ r.val (128 * (c.val / 128) + j)) (c.val % 128) (x4 (ix2 0 c)) (x3 (ix2 r c))
    = gateR (fun j => oG Q F V (2048 * a + r.val) (128 * ((512 * b + c.val) / 128) + j)) ((512 * b + c.val) % 128) (g (ix2 0 ⟨512 * b + c.val, by omega⟩)) (sg (ix2 ⟨2048 * a + r.val, by omega⟩ ⟨512 * b + c.val, by omega⟩))
  rw [h3, h4, show (512 * b + c.val) % 128 = c.val % 128 by omega,
    show 128 * ((512 * b + c.val) / 128) = 512 * b + 128 * (c.val / 128) by omega]
  simp only [oR_eq Q F V a b r.val _ r.isLt, Nat.add_assoc]

theorem N_eq : cfg0.N = 16 := by decide +kernel
theorem idx0 : ∀ t : Fin grid0.N, win0_0.index t 0 = t.val / 2 ∧ win0_0.index t 1 = t.val % 2 := by decide +kernel
theorem idx1 : ∀ t : Fin grid0.N, win0_1.index t 0 = t.val / 2 ∧ win0_1.index t 1 = t.val % 2 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel
theorem idx4 : ∀ t : Fin grid0.N, win0_4.index t 0 = 0 ∧ win0_4.index t 1 = t.val % 2 := by decide +kernel
theorem idx5 : ∀ t : Fin grid0.N, win0_5.index t 0 = t.val / 2 ∧ win0_5.index t 1 = t.val % 2 := by decide +kernel

section
variable (m : (ℓ : Loc nD τ sig) → Buf (Elt Ideal) ℓ)

/-- Window 0's block at an index. -/
theorem blk0_apply (c : Dev nD) (t : Fin cfg0.N) (r : Fin 2048) (k : Fin 512) :
    (iblk m c 0 t : Vec Ideal S2048x512 .bf16) (ix2 r k) = (m ((c : Thread nD τ).loc main_arg0) : FVec Ideal S16384x1024 .bf16)
      (ix2 ⟨2048 * (t.val / 2) + r.val, by have := lt_of_lt_of_eq t.isLt N_eq; omega⟩ ⟨512 * (t.val % 2) + k.val, by omega⟩) := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * (t.val / 2) + r.val; rw [(idx0 t).1]; omega
  | ⟨1, _⟩ => show win0_0.index t 1 * 512 + 1 * k.val = 512 * (t.val % 2) + k.val; rw [(idx0 t).2]; omega

/-- Window 1's block at an index. -/
theorem blk1_apply (c : Dev nD) (t : Fin cfg0.N) (r : Fin 2048) (k : Fin 512) :
    (iblk m c 1 t : Vec Ideal S2048x512 .f32) (ix2 r k) = (m ((c : Thread nD τ).loc main_arg1) : FVec Ideal S16384x1024 .f32)
      (ix2 ⟨2048 * (t.val / 2) + r.val, by have := lt_of_lt_of_eq t.isLt N_eq; omega⟩ ⟨512 * (t.val % 2) + k.val, by omega⟩) := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = 2048 * (t.val / 2) + r.val; rw [(idx1 t).1]; omega
  | ⟨1, _⟩ => show win0_1.index t 1 * 512 + 1 * k.val = 512 * (t.val % 2) + k.val; rw [(idx1 t).2]; omega

/-- Window 2's block at an index. -/
theorem blk2_apply (c : Dev nD) (t : Fin cfg0.N) (r : Fin 2048) (k : Fin 512) :
    (iblk m c 2 t : Vec Ideal S2048x512 .bf16) (ix2 r k) = (m ((c : Thread nD τ).loc main_arg2) : FVec Ideal S16384x1024 .bf16)
      (ix2 ⟨2048 * (t.val / 2) + r.val, by have := lt_of_lt_of_eq t.isLt N_eq; omega⟩ ⟨512 * (t.val % 2) + k.val, by omega⟩) := by
  unfold iblk
  rw [View.read_apply]
  show V m c main_arg2 _ = m (c.tc.loc main_arg2) _
  unfold V
  congr 1
  funext a
  apply Fin.ext
  match a with
  | ⟨0, _⟩ => show win0_2.index t 0 * 2048 + 1 * r.val = 2048 * (t.val / 2) + r.val; rw [(idx2 t).1]; omega
  | ⟨1, _⟩ => show win0_2.index t 1 * 512 + 1 * k.val = 512 * (t.val % 2) + k.val; rw [(idx2 t).2]; omega

/-- Window 3's block at an index. -/
theorem blk3_apply (c : Dev nD) (t : Fin cfg0.N) (r : Fin 2048) (k : Fin 512) :
    (iblk m c 3 t : Vec Ideal S2048x512 .bf16) (ix2 r k) = (m ((c : Thread nD τ).loc main_arg3) : FVec Ideal S16384x1024 .bf16)
      (ix2 ⟨2048 * (t.val / 2) + r.val, by have := lt_of_lt_of_eq t.isLt N_eq; omega⟩ ⟨512 * (t.val % 2) + k.val, by omega⟩) := by
  unfold iblk
  rw [View.read_apply]
  show V m c main_arg3 _ = m (c.tc.loc main_arg3) _
  unfold V
  congr 1
  funext a
  apply Fin.ext
  match a with
  | ⟨0, _⟩ => show win0_3.index t 0 * 2048 + 1 * r.val = 2048 * (t.val / 2) + r.val; rw [(idx3 t).1]; omega
  | ⟨1, _⟩ => show win0_3.index t 1 * 512 + 1 * k.val = 512 * (t.val % 2) + k.val; rw [(idx3 t).2]; omega

/-- Window 4's block at an index. -/
theorem blk4_apply (c : Dev nD) (t : Fin cfg0.N) (k : Fin 512) :
    (iblk m c 4 t : Vec Ideal S1x512 .f32) (ix2 0 k) = (m ((c : Thread nD τ).loc main_arg4) : FVec Ideal S1x1024 .f32)
      (ix2 0 ⟨512 * (t.val % 2) + k.val, by omega⟩) := by
  unfold iblk
  rw [View.read_apply]
  show V m c main_arg4 _ = m (c.tc.loc main_arg4) _
  unfold V
  congr 1
  funext a
  apply Fin.ext
  match a with
  | ⟨0, _⟩ => show win0_4.index t 0 * 1 + 1 * 0 = 0; rw [(idx4 t).1]
  | ⟨1, _⟩ => show win0_4.index t 1 * 512 + 1 * k.val = 512 * (t.val % 2) + k.val; rw [(idx4 t).2]; omega

/-- Where an index of the output's block lies in the array. -/
theorem emb5 (t : Fin cfg0.N) (r : Fin 2048) (k : Fin 512) :
    (((cfg0.win 5).blk t).view.emb (ix2 r k) : S16384x1024.Idx) = ix2 ⟨2048 * (t.val / 2) + r.val, by have := lt_of_lt_of_eq t.isLt N_eq; omega⟩
      ⟨512 * (t.val % 2) + k.val, by omega⟩ := by
  funext a
  apply Fin.ext
  match a with
  | ⟨0, _⟩ => show win0_5.index t 0 * 2048 + 1 * r.val = 2048 * (t.val / 2) + r.val; rw [(idx5 t).1]; omega
  | ⟨1, _⟩ => show win0_5.index t 1 * 512 + 1 * k.val = 512 * (t.val % 2) + k.val; rw [(idx5 t).2]; omega

/-- The kernel's result array. -/
theorem arr_eq (c : Dev nD) (Q F V : ℕ → ℕ → ℝ) (hF : ∀ t k, 0 < F t k)
    (hq : ∀ (r : Fin 16384) (k : Fin 1024), (m ((c : Thread nD τ).loc main_arg0) : FVec Ideal S16384x1024 .bf16) (ix2 r k) = (Q r.val k.val : EReal))
    (hf : ∀ (r : Fin 16384) (k : Fin 1024), (m ((c : Thread nD τ).loc main_arg1) : FVec Ideal S16384x1024 .f32) (ix2 r k) = (F r.val k.val : EReal))
    (hv : ∀ (r : Fin 16384) (k : Fin 1024), (m ((c : Thread nD τ).loc main_arg2) : FVec Ideal S16384x1024 .bf16) (ix2 r k) = (V r.val k.val : EReal)) :
    (dats m 0 c).arrAt 5 cfg0.N = res Q F V (m ((c : Thread nD τ).loc main_arg4)) (m ((c : Thread nD τ).loc main_arg3)) := by
  refine (dats m 0 c).arrAt_eq_of_cover 5 (res Q F V (m ((c : Thread nD τ).loc main_arg4)) (m ((c : Thread nD τ).loc main_arg3))) (fun t _ => ?_) (fun i => ?_)
  · rw [Cert.KernelIdeal.Value.flushed5_A]
    have ht := lt_of_lt_of_eq t.isLt N_eq
    rw [out_eq c (grid0.coords t) _ (hs0_0 t) _ (hs0_1 t) _ (hs0_2 t) _ (hs0_3 t) _ (hs0_4 t) _ (hs0_5 t) _ _ _ _ _
      (fun r k => Q (2048 * (t.val / 2) + r) (512 * (t.val % 2) + k)) (fun r k => F (2048 * (t.val / 2) + r) (512 * (t.val % 2) + k))
      (fun r k => V (2048 * (t.val / 2) + r) (512 * (t.val % 2) + k)) (fun r k => hF _ _)
      (fun r k => by rw [blk0_apply m c t r k, hq]) (fun r k => by rw [blk1_apply m c t r k, hf]) (fun r k => by rw [blk2_apply m c t r k, hv])]
    funext y
    obtain ⟨r, k, rfl⟩ : ∃ (r : Fin 2048) (k : Fin 512), y = ix2 r k := ⟨y 0, y 1, eq_ix2 y⟩
    rw [View.read_apply, emb5]
    exact blockOut_eq Q F V (m ((c : Thread nD τ).loc main_arg4)) (m ((c : Thread nD τ).loc main_arg3)) (t.val / 2) (t.val % 2) (by omega) (by omega) _ _
      (fun r k => blk3_apply m c t r k) (fun k => blk4_apply m c t k) r k
  · obtain ⟨r, k, rfl⟩ : ∃ (r : Fin 16384) (k : Fin 1024), i = ix2 r k := ⟨i 0, i 1, eq_ix2 i⟩
    have ht : 2 * (r.val / 2048) + k.val / 512 < cfg0.N := by rw [N_eq]; omega
    refine ⟨⟨_, ht⟩, flush0_5 _, ?_⟩
    have e := emb5 ⟨_, ht⟩ ⟨r.val % 2048, by omega⟩ ⟨k.val % 512, by omega⟩
    have e' : (((cfg0.win 5).blk ⟨_, ht⟩).view.emb (ix2 (⟨r.val % 2048, by omega⟩ : Fin 2048) (⟨k.val % 512, by omega⟩ : Fin 512)) : S16384x1024.Idx) = ix2 r k :=
      e.trans (congrArg₂ ix2 (Fin.ext (by dsimp only; omega)) (Fin.ext (by dsimp only; omega)))
    rw [← e']
    exact View.emb_mem_set _ _

end

end Cert.KernelIdeal.Trip

end
-- ==== Proof.RefLoop.lean ====
/- The reference's loop over the reals: what its carried buffers hold after each step. -/
module

public import proofs.«01_k».proof.Proof.Gen.ReferenceIdeal.Run
public import proofs.«01_k».proof.Proof.RecMath
public import proofs.«01_k».proof.Defs
public import Idealize.ShloMosaic.Lib.Pointwise

@[expose] public section

set_option maxRecDepth 8192
set_option maxHeartbeats 400000

noncomputable section

namespace Cert.ReferenceIdeal.Rec

open Cert.ReferenceIdeal Cert.ReferenceIdeal.Gen Cert.ReferenceIdeal.Value Cert.Rec Idealize.ShloMosaic Idealize.ShloMosaic.TcCoe Idealize.ShloMosaic.StableHlo
open Facts

/-- The step's number as the body computes its start. -/
theorem start_eq : ∀ n : Fin 2048, (Scalar.select (IntOp.cmpi .slt (BitVec.ofNat 32 n.val) 0#32)
    (IntOp.addi (BitVec.ofNat 32 n.val) 2048#32) (BitVec.ofNat 32 n.val)).toInt = (n.val : ℤ) := by
  decide +kernel

/-- The start of a step's slice. -/
def start (x : IVec S_ 32) : Fin 4 → ℤ := fun k => ((![constantI S_ 32 0#32, select (cmpi .slt x (constantI S_ 32 0#32)) (addi (id x) (constantI S_ 32 2048#32)) x, constantI S_ 32 0#32, constantI S_ 32 0#32] : Fin 4 → IVec S_ 32) k (Shape.Idx.first h_S_)).toInt

theorem start_apply (n : Fin 2048) (x : IVec S_ 32) (hx : x = fun _ => BitVec.ofNat 32 n.val) : start x = ![0, (n.val : ℤ), 0, 0] := by
  subst hx
  funext k
  match k with
  | 0 => rfl
  | 1 => exact start_eq n
  | 2 => rfl
  | 3 => rfl

/-- The start lies inside the operand. -/
theorem clamp_eq (n : Fin 2048) (s : Fin 4 → ℤ) (hs : s = ![0, (n.val : ℤ), 0, 0]) :
    Host.clampedStart S8x2048x8x128 S8x1x8x128 rfl s 0 = 0 ∧ Host.clampedStart S8x2048x8x128 S8x1x8x128 rfl s 1 = n.val
    ∧ Host.clampedStart S8x2048x8x128 S8x1x8x128 rfl s 2 = 0 ∧ Host.clampedStart S8x2048x8x128 S8x1x8x128 rfl s 3 = 0 := by
  subst hs
  refine ⟨?_, ?_, ?_, ?_⟩
  · exact Host.clampedStart_of_le (s := S8x2048x8x128) (t := S8x1x8x128) rfl _ 0 0 rfl (by decide)
  · exact Host.clampedStart_of_le (s := S8x2048x8x128) (t := S8x1x8x128) rfl _ 1 n.val rfl n.isLt
  · exact Host.clampedStart_of_le (s := S8x2048x8x128) (t := S8x1x8x128) rfl _ 2 0 rfl (by decide)
  · exact Host.clampedStart_of_le (s := S8x2048x8x128) (t := S8x1x8x128) rfl _ 3 0 rfl (by decide)

/-- A step's slice at an index. -/
theorem slice_apply (n : Fin 2048) (x : FVec Ideal S8x2048x8x128 .f32) (s : Fin 4 → ℤ) (hs : s = ![0, (n.val : ℤ), 0, 0]) (b : Fin 8) (h : Fin 8) (k : Fin 128) :
    shapeCast S8x8x128 (Host.dynamicSlice S8x1x8x128 x s sliceFits_S8x2048x8x128_S8x1x8x128) shapeCasts_S8x1x8x128_S8x8x128 (ix3 b h k)
      = x (ix4 b n h k) := by
  obtain ⟨e0, e1, e2, e3⟩ := clamp_eq n s hs
  pointwise
  simp only [e0, e1, e2, e3, Nat.zero_add]

/-- A step's write at an index. -/
theorem update_apply (n : Fin 2048) (x : FVec Ideal S8x2048x8x128 .f32) (u : FVec Ideal S8x8x128 .f32) (s : Fin 4 → ℤ)
    (hs : s = ![0, (n.val : ℤ), 0, 0]) (b : Fin 8) (t : Fin 2048) (h : Fin 8) (k : Fin 128) :
    Host.dynamicUpdateSlice x (broadcastInDim S8x1x8x128 ![0, 2, 3] bcast_S8x8x128_S8x1x8x128_0_2_3 u) s updateFits_S8x2048x8x128_S8x1x8x128 (ix4 b t h k)
      = if t = n then u (ix3 b h k) else x (ix4 b t h k) := by
  obtain ⟨e0, e1, e2, e3⟩ := clamp_eq n s hs
  pointwise
  by_cases ht : t = n
  · rw [dif_pos (by rw [e0, e1, e2, e3, ht]; refine ⟨?_, ?_, ?_, ?_, ?_⟩ <;> omega), if_pos ht]
    simp only [e0, e2, e3, Nat.sub_zero]
  · rw [dif_neg (fun hc => ht (Fin.ext (by rw [e1] at hc; omega))), if_neg ht]

/-- The queries the loop carries. -/
abbrev qb (V0 : Valuation τ sig (Elt Ideal)) : FVec Ideal S8x2048x8x128 .f32 := V0 (Proc.devRef .tc main_v7_0)
/-- The gates the loop carries. -/
abbrev fb (V0 : Valuation τ sig (Elt Ideal)) : FVec Ideal S8x2048x8x128 .f32 := V0 (Proc.devRef .tc main_v7_1)
/-- The values the loop carries. -/
abbrev vb (V0 : Valuation τ sig (Elt Ideal)) : FVec Ideal S8x2048x8x128 .f32 := V0 (Proc.devRef .tc main_v7_2)
/-- The step's number the loop carries. -/
abbrev nb (V0 : Valuation τ sig (Elt Ideal)) : IVec S_ 32 := V0 (Proc.devRef .tc main_v7_4)
/-- The state the loop carries. -/
abbrev stb (V0 : Valuation τ sig (Elt Ideal)) : FVec Ideal S8x8x128x128 .f32 := V0 (Proc.devRef .tc main_v7_5)
/-- The outputs the loop carries. -/
abbrev ob (V0 : Valuation τ sig (Elt Ideal)) : FVec Ideal S8x2048x8x128 .f32 := V0 (Proc.devRef .tc main_v7_6)

/-- A step's gates. -/
theorem v38_apply (V0 : Valuation τ sig (Elt Ideal)) (n : Fin 2048) (hx : nb V0 = fun _ => BitVec.ofNat 32 n.val) (b : Fin 8) (h : Fin 8) (k : Fin 128) :
    (res_main_while0b_v38 V0 : FVec Ideal S8x8x128 .f32) (ix3 b h k) = fb V0 (ix4 b n h k) :=
  slice_apply n _ _ (start_apply n _ hx) b h k

/-- The state update, of a step's gates and values. -/
def upd (f v : FVec Ideal S8x8x128 .f32) (st : FVec Ideal S8x8x128x128 .f32) : FVec Ideal S8x8x128x128 .f32 :=
  addf (mulf (broadcastInDim S8x8x128x128 ![0, 1, 2, 3] bcast_S8x8x128x1_S8x8x128x128_0_1_2_3 (broadcastInDim S8x8x128x1 ![0, 1, 2] bcast_S8x8x128_S8x8x128x1_0_1_2 f)) st)
    (mulf (broadcastInDim S8x8x128x128 ![0, 1, 2, 3] bcast_S8x8x128x1_S8x8x128x128_0_1_2_3 (broadcastInDim S8x8x128x1 ![0, 1, 2] bcast_S8x8x128_S8x8x128x1_0_1_2 (subf (broadcastInDim S8x8x128 ![] bcast_S_S8x8x128 (constant S_ .f32 0x3F800000#32)) f)))
      (broadcastInDim S8x8x128x128 ![0, 1, 2, 3] bcast_S8x8x1x128_S8x8x128x128_0_1_2_3 (broadcastInDim S8x8x1x128 ![0, 1, 3] bcast_S8x8x128_S8x8x1x128_0_1_3 v)))

theorem upd_apply (f v : FVec Ideal S8x8x128 .f32) (st : FVec Ideal S8x8x128x128 .f32) (b h : Fin 8) (k j : Fin 128) :
    upd f v st (ix4 b h k j) = f (ix3 b h k) * st (ix4 b h k j) + (1 - f (ix3 b h k)) * v (ix3 b h j) := by
  pointwise [upd]

/-- The state after a step. -/
theorem v55_apply (V0 : Valuation τ sig (Elt Ideal)) (n : Fin 2048) (hx : nb V0 = fun _ => BitVec.ofNat 32 n.val) (b : Fin 8) (h : Fin 8) (k j : Fin 128) :
    (res_main_while0b_v55 V0 : FVec Ideal S8x8x128x128 .f32) (ix4 b h k j)
      = fb V0 (ix4 b n h k) * stb V0 (ix4 b h k j) + (1 - fb V0 (ix4 b n h k)) * vb V0 (ix4 b n h j) := by
  refine (upd_apply (res_main_while0b_v38 V0) (shapeCast S8x8x128 (Host.dynamicSlice S8x1x8x128 (vb V0) (start (nb V0)) sliceFits_S8x2048x8x128_S8x1x8x128)
    shapeCasts_S8x1x8x128_S8x8x128) (stb V0) b h k j).trans ?_
  rw [v38_apply V0 n hx, slice_apply n _ _ (start_apply n _ hx) b h j]

/-- A step's outputs. -/
theorem dot_apply (q : FVec Ideal S8x8x128 .f32) (st : FVec Ideal S8x8x128x128 .f32) (b h : Fin 8) (j : Fin 128) :
    Host.dotGeneral dot_S8x8x128_S8x8x128x128_S8x8x128_2_2_n_3_01_01 none q st (ix3 b h j) = ∑ k : Fin 128, q (ix3 b h k) * st (ix4 b h k j) := by
  pointwise

/-- The outputs after a step. -/
theorem v6_apply (V0 : Valuation τ sig (Elt Ideal)) (n : Fin 2048) (hx : nb V0 = fun _ => BitVec.ofNat 32 n.val) (b : Fin 8) (t : Fin 2048) (h : Fin 8) (j : Fin 128) :
    ob (STEP V0) (ix4 b t h j) = if t = n then ∑ k : Fin 128, qb V0 (ix4 b n h k) * (res_main_while0b_v55 V0 : FVec Ideal S8x8x128x128 .f32) (ix4 b h k j)
      else ob V0 (ix4 b t h j) := by
  unfold ob
  rw [STEP_main_v7_6]
  refine (update_apply n (ob V0) (Host.dotGeneral dot_S8x8x128_S8x8x128x128_S8x8x128_2_2_n_3_01_01 none
    (shapeCast S8x8x128 (Host.dynamicSlice S8x1x8x128 (qb V0) (start (nb V0)) sliceFits_S8x2048x8x128_S8x1x8x128) shapeCasts_S8x1x8x128_S8x8x128)
    (res_main_while0b_v55 V0)) (start (nb V0)) (start_apply n _ hx) b t h j).trans ?_
  rw [dot_apply]
  simp only [slice_apply n (qb V0) _ (start_apply n _ hx) b h]

/-- What the loop carries before step `n`. -/
structure Inv (Q F V : ℕ → ℕ → ℝ) (n : ℕ) (W : Valuation τ sig (Elt Ideal)) : Prop where
  q : ∀ (b : Fin 8) (t : Fin 2048) (h : Fin 8) (k : Fin 128), qb W (ix4 b t h k) = (Q (2048 * b.val + t.val) (128 * h.val + k.val) : EReal)
  f : ∀ (b : Fin 8) (t : Fin 2048) (h : Fin 8) (k : Fin 128), fb W (ix4 b t h k) = (F (2048 * b.val + t.val) (128 * h.val + k.val) : EReal)
  v : ∀ (b : Fin 8) (t : Fin 2048) (h : Fin 8) (k : Fin 128), vb W (ix4 b t h k) = (V (2048 * b.val + t.val) (128 * h.val + k.val) : EReal)
  num : nb W = fun _ => BitVec.ofNat 32 n
  st : ∀ (b h : Fin 8) (k j : Fin 128), stb W (ix4 b h k j)
    = (cell (fun t => F (2048 * b.val + t) (128 * h.val + k.val)) (fun t => V (2048 * b.val + t) (128 * h.val + j.val)) n : EReal)
  o : ∀ (b : Fin 8) (t : Fin 2048) (h : Fin 8) (j : Fin 128), t.val < n → ob W (ix4 b t h j)
    = ((∑ k : Fin 128, Q (2048 * b.val + t.val) (128 * h.val + k.val) *
      cell (fun t => F (2048 * b.val + t) (128 * h.val + k.val)) (fun t => V (2048 * b.val + t) (128 * h.val + j.val)) (t.val + 1) : ℝ) : EReal)

/-- A step keeps it. -/
theorem Inv.step {Q F V : ℕ → ℕ → ℝ} {n : ℕ} {W : Valuation τ sig (Elt Ideal)} (hn : n < 2048) (I : Inv Q F V n W) : Inv Q F V (n + 1) (STEP W) := by
  have hst : ∀ (b h : Fin 8) (k j : Fin 128), (res_main_while0b_v55 W : FVec Ideal S8x8x128x128 .f32) (ix4 b h k j)
    = (cell (fun t => F (2048 * b.val + t) (128 * h.val + k.val)) (fun t => V (2048 * b.val + t) (128 * h.val + j.val)) (n + 1) : EReal) := fun b h k j => by
    rw [v55_apply W ⟨n, hn⟩ I.num, I.f, I.st, I.v]
    rfl
  refine ⟨?_, ?_, ?_, ?_, ?_, ?_⟩
  · intro b t h k; unfold qb; rw [STEP_main_v7_0]; exact I.q b t h k
  · intro b t h k; unfold fb; rw [STEP_main_v7_1]; exact I.f b t h k
  · intro b t h k; unfold vb; rw [STEP_main_v7_2]; exact I.v b t h k
  · unfold nb; rw [STEP_main_v7_4]
    show addi (nb W) (constantI S_ 32 1#32) = _
    rw [I.num]
    funext _
    exact (BitVec.ofNat_add n 1).symm
  · intro b h k j; unfold stb; rw [STEP_main_v7_5]; exact hst b h k j
  · intro b t h j ht
    rw [v6_apply W ⟨n, hn⟩ I.num]
    by_cases e : t = ⟨n, hn⟩
    · rw [if_pos e, coe_sum]
      subst e
      refine Finset.sum_congr rfl fun k _ => ?_
      rw [I.q, hst]
      rfl
    · rw [if_neg e]
      exact I.o b t h j (by have h1 : t.val ≠ n := fun h' => e (Fin.ext h'); omega)

/-- What the loop carries at the end. -/
theorem inv_iter (Q F V : ℕ → ℕ → ℝ) (W : Valuation τ sig (Elt Ideal)) (I : Inv Q F V 0 W) : ∀ n, n ≤ 2048 → Inv Q F V n (STEP^[n] W)
  | 0, _ => I
  | n + 1, h => by
    rw [Function.iterate_succ_apply']
    exact (inv_iter Q F V W I n (by omega)).step (by omega)

/-- What the loop starts from. -/
theorem inv_entry (m : (ℓ : Loc nD τ sig) → Buf (Elt Ideal) ℓ) (c : Dev nD) (Q F V : ℕ → ℕ → ℝ)
    (hq : ∀ (r : Fin 16384) (k : Fin 1024), (m ((c.tc : Thread nD τ).loc main_arg0) : FVec Ideal S16384x1024 .bf16) (ix2 r k) = (Q r.val k.val : EReal))
    (hf : ∀ (r : Fin 16384) (k : Fin 1024), (m ((c.tc : Thread nD τ).loc main_arg1) : FVec Ideal S16384x1024 .f32) (ix2 r k) = (F r.val k.val : EReal))
    (hv : ∀ (r : Fin 16384) (k : Fin 1024), (m ((c.tc : Thread nD τ).loc main_arg2) : FVec Ideal S16384x1024 .bf16) (ix2 r k) = (V r.val k.val : EReal)) :
    Inv Q F V 0 (entryContents preI m c) := by
  have e0 : qb (entryContents preI m c) = shapeCast S8x2048x8x128 (extf .f32 (m ((c.tc : Thread nD τ).loc main_arg0) : FVec Ideal S16384x1024 .bf16) bitsLt_bf16_f32) shapeCasts_S16384x1024_S8x2048x8x128 := by
    unfold qb
    simp only [entryContents, preI, afterL_cons, afterL_nil, hostOps0]
    after_results_entrywise []
  have e1 : fb (entryContents preI m c) = shapeCast S8x2048x8x128 (m ((c.tc : Thread nD τ).loc main_arg1) : FVec Ideal S16384x1024 .f32) shapeCasts_S16384x1024_S8x2048x8x128 := by
    unfold fb
    simp only [entryContents, preI, afterL_cons, afterL_nil, hostOps0]
    after_results_entrywise []
  have e2 : vb (entryContents preI m c) = shapeCast S8x2048x8x128 (extf .f32 (m ((c.tc : Thread nD τ).loc main_arg2) : FVec Ideal S16384x1024 .bf16) bitsLt_bf16_f32) shapeCasts_S16384x1024_S8x2048x8x128 := by
    unfold vb
    simp only [entryContents, preI, afterL_cons, afterL_nil, hostOps0]
    after_results_entrywise []
  have e4 : nb (entryContents preI m c) = constantI S_ 32 0#32 := by
    unfold nb
    simp only [entryContents, preI, afterL_cons, afterL_nil, hostOps0]
    after_results_entrywise []
  have e5 : stb (entryContents preI m c) = broadcastInDim S8x8x128x128 ![] bcast_S_S8x8x128x128 (constant S_ .f32 0x00000000#32) := by
    unfold stb
    simp only [entryContents, preI, afterL_cons, afterL_nil, hostOps0]
    after_results_entrywise []
  have hcast : ∀ (x : FVec Ideal S16384x1024 .f32) (b : Fin 8) (t : Fin 2048) (h : Fin 8) (k : Fin 128),
      shapeCast S8x2048x8x128 x shapeCasts_S16384x1024_S8x2048x8x128 (ix4 b t h k) = x (ix2 ⟨2048 * b.val + t.val, by omega⟩ ⟨128 * h.val + k.val, by omega⟩) := by
    intro x b t h k
    pointwise
    exact congrArg x (congrArg₂ ix2 (Fin.ext (by dsimp only; omega)) (Fin.ext (by dsimp only; omega)))
  refine ⟨?_, ?_, ?_, ?_, ?_, ?_⟩
  · intro b t h k; rw [e0, hcast]; exact hq _ _
  · intro b t h k; rw [e1, hcast]; exact hf _ _
  · intro b t h k; rw [e2, hcast]; exact hv _ _
  · rw [e4]; rfl
  · intro b h k j
    rw [e5]
    pointwise
    exact EReal.coe_zero.symm
  · intro b t h j ht
    exact absurd ht (Nat.not_lt_zero _)

/-- The final operations at an index. -/
theorem out_apply (W : Valuation τ sig (Elt Ideal)) (y : FVec Ideal S16384x1024 .bf16) (hy : y = out_main_v25 W) (r : Fin 16384) (k : Fin 1024) :
    y (ix2 r k) = ob W (ix4 ⟨r.val / 2048, by omega⟩ ⟨r.val % 2048, by omega⟩ ⟨k.val / 128, by omega⟩ ⟨k.val % 128, by omega⟩)
      * Ideal.rsqrt (Ideal.div (∑ x : Fin 128, ob W (ix4 ⟨r.val / 2048, by omega⟩ ⟨r.val % 2048, by omega⟩ ⟨k.val / 128, by omega⟩ x)
        * ob W (ix4 ⟨r.val / 2048, by omega⟩ ⟨r.val % 2048, by omega⟩ ⟨k.val / 128, by omega⟩ x)) (Ideal.ofBits .f32 1124073472#32)
        + Ideal.ofBits .f32 897988541#32)
      * (W (Proc.devRef .tc main_arg4) : FVec Ideal S1x1024 .f32) (ix2 0 k) * (W (Proc.devRef .tc main_arg3) : FVec Ideal S16384x1024 .bf16) (ix2 r k) := by
  subst hy
  unfold out_main_v25 ob
  generalize (W (Proc.devRef .tc main_v7_6)) = o
  generalize (W (Proc.devRef .tc main_arg4)) = g
  generalize (W (Proc.devRef .tc main_arg3)) = sg
  change FVec Ideal S8x2048x8x128 .f32 at o
  change FVec Ideal S1x1024 .f32 at g
  change FVec Ideal S16384x1024 .bf16 at sg
  pointwise

end Cert.ReferenceIdeal.Rec

end
-- ==== Proof.Real.lean ====
/- What the precondition says: the queries, the forget gates and the values are real numbers, and the gates are positive. -/
module

public import proofs.«01_k».proof.Defs
public import Idealize.ShloMosaic.Lib.Pointwise
public import Idealize.ShloMosaic.Lib.ReduceAll

@[expose] public section

set_option maxRecDepth 8192
set_option maxHeartbeats 400000

noncomputable section

namespace Cert.Pre_real_and_open

open Idealize.ShloMosaic

/-- The shape relations the precondition takes. -/
theorem shapes : Facts where
  bitsLt_bf16_f32 := by decide
  bcast_S_S16384x1024 := by decide
  reducesTo_S16384x1024_S_d0_1 := by decide
  h_S_ := by decide

/-- A comparison with both infinities that holds says its operand is real. -/
theorem real_of_cmp {x : EReal} (h1 : Ideal.cmp .ogt x (Ideal.ofBits .f32 0xFF800000#32) = 1#1) (h2 : Ideal.cmp .olt x (Ideal.ofBits .f32 0x7F800000#32) = 1#1) :
    x = (x.toReal : EReal) := by
  have e1 : Ideal.ofBits .f32 0xFF800000#32 = ⊥ := by simp [Ideal.ofBits, Ideal.ieee]
  have e2 : Ideal.ofBits .f32 0x7F800000#32 = ⊤ := by simp [Ideal.ofBits, Ideal.ieee]
  rw [e1] at h1
  rw [e2] at h2
  refine (EReal.coe_toReal ?_ ?_).symm
  · rintro rfl; simp [Ideal.cmp] at h2
  · rintro rfl; simp [Ideal.cmp] at h1

/-- A comparison with zero that holds says its operand is positive. -/
theorem pos_of_cmp {x : EReal} (h : Ideal.cmp .ogt x (Ideal.ofBits .f32 0x00000000#32) = 1#1) : 0 < x := by
  have e : Ideal.ofBits .f32 0x00000000#32 = 0 := by simp [Ideal.ofBits, Ideal.ieee]
  rw [e] at h
  by_contra hn
  simp [Ideal.cmp, hn] at h

instance : Subsingleton S_.Idx := ⟨fun a b => funext fun i => i.elim0⟩

/-- The precondition read at the indices. -/
theorem read [Facts] (q : FVec Ideal S16384x1024 .bf16) (f : FVec Ideal S16384x1024 .f32) (v sg : FVec Ideal S16384x1024 .bf16) (g : FVec Ideal S1x1024 .f32)
    (h : fn (F := Ideal) q f v sg g = fun _ => 1#1) :
    (∀ i, q i = ((q i : EReal).toReal : EReal)) ∧ (∀ i, v i = ((v i : EReal).toReal : EReal)) ∧ (∀ i, f i = ((f i : EReal).toReal : EReal)) ∧ ∀ i, (0 : EReal) < f i := by
  have h0 := congrFun h (Shape.Idx.first Facts.h_S_)
  unfold fn fn_part1 at h0
  obtain ⟨h1, h24⟩ := IntOp.andi_eq_one.1 h0
  obtain ⟨h14, h20⟩ := IntOp.andi_eq_one.1 h1
  obtain ⟨h6, h13⟩ := IntOp.andi_eq_one.1 h14
  refine ⟨fun i => ?_, fun i => ?_, fun i => ?_, fun i => ?_⟩
  · obtain ⟨a, b⟩ := IntOp.andi_eq_one.1 (Host.reduce_andi_all _ _ _ _ _ h6 i)
    exact real_of_cmp a b
  · obtain ⟨a, b⟩ := IntOp.andi_eq_one.1 (Host.reduce_andi_all _ _ _ _ _ h13 i)
    exact real_of_cmp a b
  · obtain ⟨a, b⟩ := IntOp.andi_eq_one.1 (Host.reduce_andi_all _ _ _ _ _ h20 i)
    exact real_of_cmp a b
  · exact pos_of_cmp (Host.reduce_andi_all _ _ _ _ _ h24 i)

end Cert.Pre_real_and_open

end
-- ==== Proof.Algebraic.lean ====
/- The kernel's result and the reference's, equal. -/
module

public import proofs.«01_k».proof.Proof.Blocks
public import proofs.«01_k».proof.Proof.RefLoop
public import proofs.«01_k».proof.Proof.Real
public import proofs.«01_k».proof.Proof.Gen.KernelIdeal.Value

@[expose] public section

set_option maxRecDepth 8192
set_option maxHeartbeats 400000

noncomputable section

namespace Cert.ReferenceIdeal.Rec

open Cert.ReferenceIdeal Cert.ReferenceIdeal.Gen Cert.ReferenceIdeal.Value Cert.Rec Idealize.ShloMosaic Idealize.ShloMosaic.TcCoe Idealize.ShloMosaic.StableHlo
open Facts

/-- The loop's outputs at the end, at a row and a column of the whole array. -/
theorem ob_end (m : (ℓ : Loc nD τ sig) → Buf (Elt Ideal) ℓ) (c : Dev nD) (Q F V : ℕ → ℕ → ℝ) (I : Inv Q F V 2048 (STEP^[2048] (entryContents preI m c)))
    (r : Fin 16384) (h : ℕ) (hh : h < 8) (x : Fin 128) :
    ob (STEP^[2048] (entryContents preI m c)) (ix4 ⟨r.val / 2048, by omega⟩ ⟨r.val % 2048, by omega⟩ ⟨h, hh⟩ x)
      = (Cert.KernelIdeal.Trip.oG Q F V r.val (128 * h + x.val) : EReal) := by
  rw [I.o _ _ _ _ (by dsimp only; omega)]
  unfold Cert.KernelIdeal.Trip.oG
  dsimp only
  rw [show 2048 * (r.val / 2048) + r.val % 2048 = r.val by omega, show (128 * h + x.val) / 128 = h by omega]

/-- The reference's result. -/
theorem ref_eq (m : (ℓ : Loc nD τ sig) → Buf (Elt Ideal) ℓ) (c : Dev nD) (Q F V : ℕ → ℕ → ℝ)
    (hq : ∀ (r : Fin 16384) (k : Fin 1024), (m ((c.tc : Thread nD τ).loc main_arg0) : FVec Ideal S16384x1024 .bf16) (ix2 r k) = (Q r.val k.val : EReal))
    (hf : ∀ (r : Fin 16384) (k : Fin 1024), (m ((c.tc : Thread nD τ).loc main_arg1) : FVec Ideal S16384x1024 .f32) (ix2 r k) = (F r.val k.val : EReal))
    (hv : ∀ (r : Fin 16384) (k : Fin 1024), (m ((c.tc : Thread nD τ).loc main_arg2) : FVec Ideal S16384x1024 .bf16) (ix2 r k) = (V r.val k.val : EReal))
    (y : FVec Ideal S16384x1024 .bf16) (hy : y = out_main_v25 (STEP^[2048] (entryContents preI m c))) :
    y = Cert.KernelIdeal.Trip.res Q F V (m ((c.tc : Thread nD τ).loc main_arg4)) (m ((c.tc : Thread nD τ).loc main_arg3)) := by
  have I := inv_iter Q F V _ (inv_entry m c Q F V hq hf hv) 2048 le_rfl
  funext z
  obtain ⟨r, k, rfl⟩ : ∃ (r : Fin 16384) (k : Fin 1024), z = ix2 r k := ⟨z 0, z 1, eq_ix2 z⟩
  rw [out_apply _ y hy r k]
  simp only [ob_end m c Q F V I r (k.val / 128) (by omega)]
  rw [iter_main_arg3, iter_main_arg4]
  rfl

end Cert.ReferenceIdeal.Rec

namespace Cert.Proof

open Idealize.ShloMosaic Idealize.ShloMosaic.TcCoe

/-- An array's entry by its row and column, `d` outside. -/
def ext2 (d : ℝ) (x : (⟨2, ![16384, 1024]⟩ : Shape).Idx → EReal) (r k : ℕ) : ℝ :=
  if h : r < 16384 ∧ k < 1024 then (x (ix2 ⟨r, h.1⟩ ⟨k, h.2⟩)).toReal else d

theorem ext2_apply (d : ℝ) (x : (⟨2, ![16384, 1024]⟩ : Shape).Idx → EReal) (hx : ∀ i, x i = ((x i).toReal : EReal)) (r : Fin 16384) (k : Fin 1024) :
    x (ix2 r k) = (ext2 d x r.val k.val : EReal) := by
  unfold ext2
  rw [dif_pos ⟨r.isLt, k.isLt⟩]
  exact hx _

theorem ext2_pos (x : (⟨2, ![16384, 1024]⟩ : Shape).Idx → EReal) (hx : ∀ i, x i = ((x i).toReal : EReal)) (hp : ∀ i, 0 < x i) (r k : ℕ) :
    0 < ext2 1 x r k := by
  unfold ext2
  split
  · have h := hp (ix2 ⟨r, by omega⟩ ⟨k, by omega⟩)
    rw [hx] at h
    exact EReal.coe_pos.1 h
  · exact one_pos

/-- The kernel and the reference end with equal results. -/
theorem algebraic [Cert.Pre_real_and_open.Facts] : Cert.algebraic_KernelIdeal_ReferenceIdeal_pre_real_and_open := by
  intro m g m' g' hpre hagree
  have hr := fun c : Dev Cert.KernelIdeal.nD => Cert.Pre_real_and_open.read _ _ _ _ _ (hpre c)
  refine ⟨_, Cert.KernelIdeal.Value.run_blocks m g, ?_⟩
  refine (θ_run Cert.ReferenceIdeal.defs _ _).mono (fun r h c => ⟨?_, ?_⟩) (Cert.ReferenceIdeal.Value.run (F := Ideal) m' g')
  · refine (h c).1.trans ?_
    obtain ⟨hq, hv, hf, hp⟩ := hr c
    obtain ⟨a0, a1, a2, a3, a4⟩ := hagree c
    refine (Cert.ReferenceIdeal.Rec.ref_eq m' c
      (ext2 0 (m ((c.tc : Thread Cert.KernelIdeal.nD Cert.KernelIdeal.τ).loc Cert.KernelIdeal.main_arg0)))
      (ext2 1 (m ((c.tc : Thread Cert.KernelIdeal.nD Cert.KernelIdeal.τ).loc Cert.KernelIdeal.main_arg1)))
      (ext2 0 (m ((c.tc : Thread Cert.KernelIdeal.nD Cert.KernelIdeal.τ).loc Cert.KernelIdeal.main_arg2)))
      ?_ ?_ ?_ _ rfl).trans (?_ : _ = _)
    · intro r k; rw [a0]; exact ext2_apply 0 _ hq r k
    · intro r k; rw [a1]; exact ext2_apply 1 _ hf r k
    · intro r k; rw [a2]; exact ext2_apply 0 _ hv r k
    · rw [a3, a4]
      exact (Cert.KernelIdeal.Trip.arr_eq m c _ _ _ (ext2_pos _ hf hp) (ext2_apply 0 _ hq) (ext2_apply 1 _ hf) (ext2_apply 0 _ hv)).symm
  · exact (h c).2

end Cert.Proof

end
-- ==== Proof.InProjOut.lean ====
/- What the projection call's body leaves in each of its output blocks. -/
module

public import proofs.«01_k».proof.Defs
public import proofs.«01_k».proof.Proof.Gen.Kernel2Ideal.Value
public import proofs.«01_k».proof.Proof.Gen.Kernel2Ideal.Frame
public import Idealize.ShloMosaic.Lib.Pointwise
public import Idealize.ShloMosaic.Lib.WholeRead
public import Idealize.ShloMosaic.Lib.ValueLayout

@[expose] public section

set_option maxRecDepth 8192
set_option maxHeartbeats 400000

noncomputable section

namespace Cert.Kernel2Ideal.InProj

open Cert.Kernel2Ideal Cert.Kernel2Ideal.Gen Idealize.ShloMosaic Idealize.ShloMosaic.TcCoe
open Facts

theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole buffer holding `X` reads `X` there. -/
theorem readAt_eq {S : Shape} {e : EltTy} {a : Memref sig .tc .vmem S e} (ha : a.IsWhole) (X : Vec Ideal S e) (R : Rect S) :
    View.readAt (Elt Ideal) a.view R.toLoadRect (ha.unread X) = View.ld X R :=
  funext fun x => ha.readAt_unread X R.toLoadRect x

/-- The normalised and modulated rows, as the body keeps them between its products. -/
abbrev uB (x0 : Vec Ideal S256x1024 .f32) (x1 : Vec Ideal S1x6x1024 .f32) (x2 : Vec Ideal S1x1024 .f32) : FVec Ideal S256x1024 .bf16 :=
  k0_pay3 x1 x0 x2

/-- Columns 0 to 1023 of the weights. -/
abbrev wB0 (x4 : Vec Ideal S1024x8192 .bf16) : Vec Ideal S1024x1024 .bf16 :=
  View.ld x4 (Rect.unit (s := S1024x8192) ![0, 0] S1024x1024.size inb_S1024x8192_S1024x1024_0_0)
/-- Columns 1024 to 2047 of the weights. -/
abbrev wB1 (x4 : Vec Ideal S1024x8192 .bf16) : Vec Ideal S1024x1024 .bf16 :=
  View.ld x4 (Rect.unit (s := S1024x8192) ![0, 1024] S1024x1024.size inb_S1024x8192_S1024x1024_0_1024)
/-- Columns 2048 to 3071 of the weights. -/
abbrev wB2 (x4 : Vec Ideal S1024x8192 .bf16) : Vec Ideal S1024x1024 .bf16 :=
  View.ld x4 (Rect.unit (s := S1024x8192) ![0, 2048] S1024x1024.size inb_S1024x8192_S1024x1024_0_2048)
/-- Columns 3072 to 4095 of the weights. -/
abbrev wB3 (x4 : Vec Ideal S1024x8192 .bf16) : Vec Ideal S1024x1024 .bf16 :=
  View.ld x4 (Rect.unit (s := S1024x8192) ![0, 3072] S1024x1024.size inb_S1024x8192_S1024x1024_0_3072)
/-- Columns 4096 to 5119 of the weights. -/
abbrev wB4 (x4 : Vec Ideal S1024x8192 .bf16) : Vec Ideal S1024x1024 .bf16 :=
  View.ld x4 (Rect.unit (s := S1024x8192) ![0, 4096] S1024x1024.size inb_S1024x8192_S1024x1024_0_4096)
/-- Columns 5120 to 6143 of the weights. -/
abbrev wB5 (x4 : Vec Ideal S1024x8192 .bf16) : Vec Ideal S1024x1024 .bf16 :=
  View.ld x4 (Rect.unit (s := S1024x8192) ![0, 5120] S1024x1024.size inb_S1024x8192_S1024x1024_0_5120)
/-- Columns 6144 to 7167 of the weights. -/
abbrev wB6 (x4 : Vec Ideal S1024x8192 .bf16) : Vec Ideal S1024x1024 .bf16 :=
  View.ld x4 (Rect.unit (s := S1024x8192) ![0, 6144] S1024x1024.size inb_S1024x8192_S1024x1024_0_6144)
/-- Columns 7168 to 8191 of the weights. -/
abbrev wB7 (x4 : Vec Ideal S1024x8192 .bf16) : Vec Ideal S1024x1024 .bf16 :=
  View.ld x4 (Rect.unit (s := S1024x8192) ![0, 7168] S1024x1024.size inb_S1024x8192_S1024x1024_0_7168)

/-- The rows read back from the first scratch buffer. -/
theorem v30_eq (c : Dev nD) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg13 : Memref sig .tc .vmem S256x1024 .bf16)
    (x0 : Vec Ideal S256x1024 .f32) (x1 : Vec Ideal S1x6x1024 .f32) (x2 : Vec Ideal S1x1024 .f32) :
    kernelRun0_A.sl.v30 (F := Ideal) c arg1 harg1 arg2 harg2 arg3 harg3 arg13 x0 x1 x2 = uB x0 x1 x2 := by
  unfold kernelRun0_A.sl.v30 kernelRun0_A.sl.HS0_1
  rw [View.readCov_unit_zero (S := S256x1024) _ zero2, readAt_eq harg1, readAt_eq harg2, readAt_eq harg3,
    View.ld_unit_zero (S := S256x1024) zero2, View.ld_unit_zero (S := S1x6x1024) zero3, View.ld_unit_zero (S := S1x1024) zero2]

/-- The rows read back from the first scratch buffer, later. -/
theorem v105_eq (c : Dev nD) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg13 : Memref sig .tc .vmem S256x1024 .bf16)
    (x0 : Vec Ideal S256x1024 .f32) (x1 : Vec Ideal S1x6x1024 .f32) (x2 : Vec Ideal S1x1024 .f32) :
    kernelRun0_A.sl.v105 (F := Ideal) c arg1 harg1 arg2 harg2 arg3 harg3 arg13 x0 x1 x2 = uB x0 x1 x2 := by
  unfold kernelRun0_A.sl.v105 kernelRun0_A.sl.HS0_1
  rw [View.readCov_unit_zero (S := S256x1024) _ zero2, readAt_eq harg1, readAt_eq harg2, readAt_eq harg3,
    View.ld_unit_zero (S := S256x1024) zero2, View.ld_unit_zero (S := S1x6x1024) zero3, View.ld_unit_zero (S := S1x1024) zero2]

/-- The product read back from the second scratch buffer. -/
theorem v91_eq (c : Dev nD) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg5 : Memref sig .tc .vmem S1024x8192 .bf16) (harg5 : arg5.IsWhole) (arg13 : Memref sig .tc .vmem S256x1024 .bf16) (arg14 : Memref sig .tc .vmem S256x1024 .f32)
    (x0 : Vec Ideal S256x1024 .f32) (x1 : Vec Ideal S1x6x1024 .f32) (x2 : Vec Ideal S1x1024 .f32) (x4 : Vec Ideal S1024x8192 .bf16) :
    kernelRun0_A.sl.v91 (F := Ideal) c arg1 harg1 arg2 harg2 arg3 harg3 arg5 harg5 arg13 arg14 x0 x1 x2 x4 = k0_pay8 (uB x0 x1 x2) (wB4 x4) := by
  unfold kernelRun0_A.sl.v91 kernelRun0_A.sl.HS1_1
  rw [View.readCov_unit_zero (S := S256x1024) _ zero2, v30_eq, readAt_eq harg5]

/-- Output 5's block. -/
theorem out5 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole)
    (x0 : Vec Ideal S256x1024 .f32) (x1 : Vec Ideal S1x6x1024 .f32) (x2 : Vec Ideal S1x1024 .f32) (x3 : Vec Ideal S2x1024 .f32) (x4 : Vec Ideal S1024x8192 .bf16) :
    out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay4 (uB x0 x1 x2) (wB0 x4) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  rw [View.canon_unit_zero (S := S256x1024) zero2, v30_eq, readAt_eq harg5]

/-- Output 6's block. -/
theorem out6 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole)
    (x0 : Vec Ideal S256x1024 .f32) (x1 : Vec Ideal S1x6x1024 .f32) (x2 : Vec Ideal S1x1024 .f32) (x3 : Vec Ideal S2x1024 .f32) (x4 : Vec Ideal S1024x8192 .bf16) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay5 x3 (uB x0 x1 x2) (wB1 x4) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  rw [View.canon_unit_zero (S := S256x1024) zero2, v30_eq, readAt_eq harg5, readAt_eq harg4, View.ld_unit_zero (S := S2x1024) zero2]

/-- Output 7's block. -/
theorem out7 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole)
    (x0 : Vec Ideal S256x1024 .f32) (x1 : Vec Ideal S1x6x1024 .f32) (x2 : Vec Ideal S1x1024 .f32) (x3 : Vec Ideal S2x1024 .f32) (x4 : Vec Ideal S1024x8192 .bf16) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay6 (uB x0 x1 x2) (wB2 x4) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  rw [View.canon_unit_zero (S := S256x1024) zero2, v30_eq, readAt_eq harg5]

/-- Output 8's block. -/
theorem out8 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole)
    (x0 : Vec Ideal S256x1024 .f32) (x1 : Vec Ideal S1x6x1024 .f32) (x2 : Vec Ideal S1x1024 .f32) (x3 : Vec Ideal S2x1024 .f32) (x4 : Vec Ideal S1024x8192 .bf16) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay7 (uB x0 x1 x2) (wB3 x4) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  rw [View.canon_unit_zero (S := S256x1024) zero2, v30_eq, readAt_eq harg5]

/-- Output 9's block. -/
theorem out9 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole)
    (x0 : Vec Ideal S256x1024 .f32) (x1 : Vec Ideal S1x6x1024 .f32) (x2 : Vec Ideal S1x1024 .f32) (x3 : Vec Ideal S2x1024 .f32) (x4 : Vec Ideal S1024x8192 .bf16) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay9 (k0_pay8 (uB x0 x1 x2) (wB4 x4)) (uB x0 x1 x2) (wB5 x4) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  rw [View.canon_unit_zero (S := S256x1024) zero2, kernelRun0_A.sl.r, v91_eq, v30_eq, readAt_eq harg5]

/-- Output 10's block. -/
theorem out10 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole)
    (x0 : Vec Ideal S256x1024 .f32) (x1 : Vec Ideal S1x6x1024 .f32) (x2 : Vec Ideal S1x1024 .f32) (x3 : Vec Ideal S2x1024 .f32) (x4 : Vec Ideal S1024x8192 .bf16) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay1 (uB x0 x1 x2) (wB6 x4) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  rw [View.canon_unit_zero (S := S256x1024) zero2, v105_eq, readAt_eq harg5]

/-- Output 11's block. -/
theorem out11 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole)
    (x0 : Vec Ideal S256x1024 .f32) (x1 : Vec Ideal S1x6x1024 .f32) (x2 : Vec Ideal S1x1024 .f32) (x3 : Vec Ideal S2x1024 .f32) (x4 : Vec Ideal S1024x8192 .bf16) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay2 (uB x0 x1 x2) (wB7 x4) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
  unfold kernelRun0_A
  dsimp only
  rw [View.canon_unit_zero (S := S256x1024) zero2, v105_eq, readAt_eq harg5]

end Cert.Kernel2Ideal.InProj

end
-- ==== Proof.InProjRef.lean ====
/- The projection call's reference at an index. -/
module

public import proofs.«01_k».proof.Defs
public import proofs.«01_k».proof.Proof.Gen.Reference2Ideal.Run
public import proofs.«01_k».proof.Proof.Gen.Reference2Ideal.Read
public import Idealize.ShloMosaic.Lib.Pointwise
public import Idealize.ShloMosaic.Lib.ValueLayout

@[expose] public section

set_option maxRecDepth 8192
set_option maxHeartbeats 400000

noncomputable section

namespace Cert.Reference2Ideal.InProj

open Cert.Reference2Ideal Cert.Reference2Ideal.Gen Idealize.ShloMosaic Idealize.ShloMosaic.TcCoe
open Facts Read

/-- The normalised and modulated input, at a row of the 16384 and a column. -/
def uR (x0 : FVec Ideal S8x2048x1024 .f32) (x1 : FVec Ideal S8x6x1024 .f32) (x2 : FVec Ideal S1x1024 .f32) (r : Fin 16384) (n : Fin 1024) : EReal :=
  x0 (ix3 ⟨r.val / 2048, by omega⟩ ⟨r.val % 2048, by omega⟩ n) * Ideal.rsqrt (Ideal.div (∑ k : Fin 1024,
      x0 (ix3 ⟨r.val / 2048, by omega⟩ ⟨r.val % 2048, by omega⟩ k) * x0 (ix3 ⟨r.val / 2048, by omega⟩ ⟨r.val % 2048, by omega⟩ k)) (Ideal.ofBits .f32 0x44800000#32)
      + Ideal.ofBits .f32 0x358637BD#32) * x2 (ix2 0 n) * (1 + x1 (ix3 ⟨r.val / 2048, by omega⟩ 1 n)) + x1 (ix3 ⟨r.val / 2048, by omega⟩ 0 n)

/-- The projection, at a row and a column of the 8192. -/
def zR (x0 : FVec Ideal S8x2048x1024 .f32) (x1 : FVec Ideal S8x6x1024 .f32) (x2 : FVec Ideal S1x1024 .f32) (x4 : FVec Ideal S1x1024x8192 .f32)
    (r : Fin 16384) (j : Fin 8192) : EReal :=
  ∑ k : Fin 1024, uR x0 x1 x2 r k * x4 (ix3 0 k j)

/-- A column's larger bound. -/
def mxR (x3 : FVec Ideal S2x1024 .f32) (n : Fin 1024) : EReal :=
  Finset.univ.fold max (Ideal.ofBits .f32 0xFF800000#32) (fun j : Fin 2 => x3 (ix2 j n))

/-- The first layer's lower bound, at a column. -/
def lbR (x3 : FVec Ideal S2x1024 .f32) (n : Fin 1024) : EReal :=
  Ideal.div (Ideal.exp (x3 (ix2 0 n) - mxR x3 n)) (∑ j : Fin 2, Ideal.exp (x3 (ix2 j n) - mxR x3 n))

/-- The logistic function as both programs write it. -/
def sgm (z : EReal) : EReal := Ideal.div 1 (1 + Ideal.exp (-z))

/-- The normalised input of the reference. -/
theorem v33_apply (x0 : FVec Ideal S8x2048x1024 .f32) (x1 : FVec Ideal S8x6x1024 .f32) (x2 : FVec Ideal S1x1024 .f32) (r : Fin 16384) (n : Fin 1024) :
    val_main_v33 (F := Ideal) x0 x1 x2 (ix3 ⟨r.val / 2048, by omega⟩ ⟨r.val % 2048, by omega⟩ n) = uR x0 x1 x2 r n := by
  unfold uR
  pointwise [val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_cst_2, val_main_cst_3, val_main_cst_4, val_main_cst_5]

/-- The projection of the reference. -/
theorem v36_apply (x0 : FVec Ideal S8x2048x1024 .f32) (x1 : FVec Ideal S8x6x1024 .f32) (x2 : FVec Ideal S1x1024 .f32) (x4 : FVec Ideal S1x1024x8192 .f32)
    (r : Fin 16384) (j : Fin 8192) : val_main_v36 (F := Ideal) x0 x1 x2 x4 (ix2 r j) = zR x0 x1 x2 x4 r j := by
  unfold zR
  simp only [← v33_apply]
  unfold val_main_v36 val_main_v35 val_main_v34
  generalize val_main_v33 (F := Ideal) x0 x1 x2 = u
  pointwise []

/-- A running sum down two rows starts with the first row. -/
theorem cumsum_first (x : FVec Ideal S2x1024 .f32) (v : FVec Ideal S_ .f32) (hv : v (Shape.Idx.first h_S_) = 0) (n : Fin 1024) :
    Host.reduceWindowAdd ![2, 1] ![1, 1] ![1, 0] ![0, 0] x v reduceWindows_S2x1024_S2x1024_w2s1p1_0_w1s1p0_0 h_S_ (ix2 0 n) = x (ix2 0 n) := by
  unfold Host.reduceWindowAdd
  rw [Ideal.hostReduceWindowAdd_def, hv]
  unfold Ideal.hostReduceWindowAdd Host.reduceWindow
  dsimp only
  have hW : ∀ k : Fin (⟨2, ![2, 1]⟩ : Shape).numel, ((⟨2, ![2, 1]⟩ : Shape).rowMajor.symm k 0).val = k.val ∧ ((⟨2, ![2, 1]⟩ : Shape).rowMajor.symm k 1).val = 0 := by
    decide +kernel
  have hL : List.finRange (⟨2, ![2, 1]⟩ : Shape).numel = [⟨0, by decide⟩, ⟨1, by decide⟩] := by decide +kernel
  rw [hL]
  simp only [List.foldl_cons, List.foldl_nil]
  rw [dif_neg, dif_pos, zero_add, zero_add]
  · congr 1
    funext a
    apply Fin.ext
    match a with
    | ⟨0, _⟩ => show 0 * 1 + ((⟨2, ![2, 1]⟩ : Shape).rowMajor.symm ⟨1, by decide⟩ 0).val - 1 = 0; rw [(hW _).1]; rfl
    | ⟨1, _⟩ => show n.val * 1 + ((⟨2, ![2, 1]⟩ : Shape).rowMajor.symm ⟨1, by decide⟩ 1).val - 0 = n.val; rw [(hW _).2]; omega
  · intro a
    match a with
    | ⟨0, _⟩ =>
      show 1 ≤ 0 * 1 + ((⟨2, ![2, 1]⟩ : Shape).rowMajor.symm ⟨1, by decide⟩ 0).val ∧ 0 * 1 + ((⟨2, ![2, 1]⟩ : Shape).rowMajor.symm ⟨1, by decide⟩ 0).val - 1 < 2
      rw [(hW _).1]; decide
    | ⟨1, _⟩ =>
      show 0 ≤ n.val * 1 + ((⟨2, ![2, 1]⟩ : Shape).rowMajor.symm ⟨1, by decide⟩ 1).val ∧ n.val * 1 + ((⟨2, ![2, 1]⟩ : Shape).rowMajor.symm ⟨1, by decide⟩ 1).val - 0 < 1024
      rw [(hW _).2]; omega
  · intro h
    have h0 : 1 ≤ 0 * 1 + ((⟨2, ![2, 1]⟩ : Shape).rowMajor.symm ⟨0, by decide⟩ 0).val := (h 0).1
    rw [(hW _).1] at h0
    exact absurd h0 (by decide)

/-- The shares of each layer in a column. -/
theorem v10_apply (x3 : FVec Ideal S2x1024 .f32) (n : Fin 1024) : val_main_v10 (F := Ideal) x3 (ix2 0 n) = lbR x3 n := by
  have hb : Ideal.ofBits .f32 0xFF800000#32 = (⊥ : EReal) := by simp [Ideal.ofBits, Ideal.ieee]
  unfold lbR mxR
  pointwise [val_main_v10, val_main_v9, val_main_v8, val_main_v7, val_main_v6, val_main_v5, val_main_v4, val_main_v3, val_main_v2, val_main_v1, val_main_v0,
    val_main_cst_0, val_main_cst_1, val_main_cst]
  simp only [hb, max_bot_left, bot_le, max_eq_right]

/-- The first layer's lower bound of the reference. -/
theorem v46_apply (x3 : FVec Ideal S2x1024 .f32) (n : Fin 1024) : val_main_v46 (F := Ideal) x3 (ix1 n) = lbR x3 n := by
  have h : val_main_v11 (F := Ideal) x3 (ix2 0 n) = lbR x3 n :=
    (cumsum_first (val_main_v10 (F := Ideal) x3) (val_main_call0_call0_v0 (F := Ideal)) (by pointwise [val_main_call0_call0_v0, val_main_call0_call0_cst]) n).trans (v10_apply x3 n)
  rw [← h]
  unfold val_main_v46 val_main_v45
  generalize val_main_v11 (F := Ideal) x3 = y
  pointwise []

section
variable (x0 : FVec Ideal S8x2048x1024 .f32) (x1 : FVec Ideal S8x6x1024 .f32) (x2 : FVec Ideal S1x1024 .f32) (x3 : FVec Ideal S2x1024 .f32) (x4 : FVec Ideal S1x1024x8192 .f32)
  (r : Fin 16384) (n : Fin 1024)

/-- The reference's queries. -/
theorem v61_apply : val_main_v61 (F := Ideal) x0 x1 x2 x4 (ix2 r n) = zR x0 x1 x2 x4 r ⟨n.val, by omega⟩ := by
  rw [← v36_apply]
  unfold val_main_v61 val_main_v37
  generalize val_main_v36 (F := Ideal) x0 x1 x2 x4 = z
  pointwise []

/-- The reference's decays. -/
theorem v60_apply : val_main_v60 (F := Ideal) x0 x1 x2 x3 x4 (ix2 r n)
    = lbR x3 n + (1 - lbR x3 n) * sgm (zR x0 x1 x2 x4 r ⟨1024 + n.val, by omega⟩) := by
  rw [← v36_apply, ← v46_apply]
  unfold val_main_v60 val_main_v59 val_main_v58 val_main_v57 val_main_v56 val_main_v55 val_main_v54 val_main_v53 val_main_v52 val_main_v51 val_main_v50 val_main_v49 val_main_v48 val_main_v47 val_main_v38 sgm
  generalize val_main_v36 (F := Ideal) x0 x1 x2 x4 = z
  generalize val_main_v46 (F := Ideal) x3 = l
  pointwise [val_main_cst_6, val_main_cst_7, val_main_cst_8]

/-- The reference's values. -/
theorem v62_apply : val_main_v62 (F := Ideal) x0 x1 x2 x4 (ix2 r n) = zR x0 x1 x2 x4 r ⟨2048 + n.val, by omega⟩ := by
  rw [← v36_apply]
  unfold val_main_v62 val_main_v39
  generalize val_main_v36 (F := Ideal) x0 x1 x2 x4 = z
  pointwise []

/-- The reference's output gate. -/
theorem v64_apply : val_main_v64 (F := Ideal) x0 x1 x2 x4 (ix2 r n)
    = zR x0 x1 x2 x4 r ⟨3072 + n.val, by omega⟩ * sgm (zR x0 x1 x2 x4 r ⟨3072 + n.val, by omega⟩) := by
  rw [← v36_apply]
  unfold val_main_v64 val_main_v63 val_main_call1_v5 val_main_call1_v4 val_main_call1_v3 val_main_call1_v2 val_main_call1_v1 val_main_call1_v0 val_main_v40 sgm
  generalize val_main_v36 (F := Ideal) x0 x1 x2 x4 = z
  pointwise [val_main_call1_cst, val_main_call1_cst_0]

/-- The reference's gated linear unit. -/
theorem v71_apply : val_main_v71 (F := Ideal) x0 x1 x2 x4 (ix2 r n)
    = zR x0 x1 x2 x4 r ⟨4096 + n.val, by omega⟩ * sgm (zR x0 x1 x2 x4 r ⟨5120 + n.val, by omega⟩) := by
  rw [← v36_apply, ← v36_apply]
  unfold val_main_v71 val_main_v70 val_main_v69 val_main_v68 val_main_v67 val_main_v66 val_main_v65 val_main_v42 val_main_v41 sgm
  generalize val_main_v36 (F := Ideal) x0 x1 x2 x4 = z
  pointwise [val_main_cst_9, val_main_cst_10]

/-- The reference's first merging gate. -/
theorem v78_apply : val_main_v78 (F := Ideal) x0 x1 x2 x4 (ix2 r n) = sgm (zR x0 x1 x2 x4 r ⟨6144 + n.val, by omega⟩) := by
  rw [← v36_apply]
  unfold val_main_v78 val_main_v77 val_main_v76 val_main_v75 val_main_v74 val_main_v73 val_main_v72 val_main_v43 sgm
  generalize val_main_v36 (F := Ideal) x0 x1 x2 x4 = z
  pointwise [val_main_cst_11, val_main_cst_12]

/-- The reference's second merging gate. -/
theorem v85_apply : val_main_v85 (F := Ideal) x0 x1 x2 x4 (ix2 r n) = sgm (zR x0 x1 x2 x4 r ⟨7168 + n.val, by omega⟩) := by
  rw [← v36_apply]
  unfold val_main_v85 val_main_v84 val_main_v83 val_main_v82 val_main_v81 val_main_v80 val_main_v79 val_main_v44 sgm
  generalize val_main_v36 (F := Ideal) x0 x1 x2 x4 = z
  pointwise [val_main_cst_13, val_main_cst_14]

end

end Cert.Reference2Ideal.InProj

end
-- ==== Proof.InProj.lean ====
/- The projection call: what its kernel leaves is what its reference computes. -/
module

public import proofs.«01_k».proof.Defs
public import proofs.«01_k».proof.Proof.InProjOut
public import proofs.«01_k».proof.Proof.InProjRef
public import Idealize.ShloMosaic.Lib.Pointwise
public import Idealize.ShloMosaic.Lib.ValueLayout

@[expose] public section

set_option maxRecDepth 8192
set_option maxHeartbeats 400000

noncomputable section

namespace Cert.Kernel2Ideal.InProj

open Cert.Kernel2Ideal Cert.Kernel2Ideal.Gen Idealize.ShloMosaic Idealize.ShloMosaic.TcCoe
open Facts
open Cert.Reference2Ideal.InProj (uR zR lbR mxR sgm)

section
variable (u : FVec Ideal S256x1024 .bf16) (w w' : Vec Ideal S1024x1024 .bf16) (l : Vec Ideal S2x1024 .f32) (r : Fin 256) (n : Fin 1024)

/-- A block of the projection, at an index. -/
def zB (u : FVec Ideal S256x1024 .bf16) (w : Vec Ideal S1024x1024 .bf16) (r : Fin 256) (n : Fin 1024) : EReal := ∑ k : Fin 1024, u (ix2 r k) * w (ix2 k n)

/-- The queries' block at an index. -/
theorem pay4_apply : k0_pay4 (F := Ideal) u w (ix2 r n) = zB u w r n := by
  unfold zB
  pointwise [k0_pay4]

/-- The decays' block at an index. -/
theorem pay5_apply : k0_pay5 (F := Ideal) l u w (ix2 r n) = lbR l n + (1 - lbR l n) * sgm (zB u w r n) := by
  unfold zB sgm lbR mxR
  pointwise [k0_pay5]
  simp only [zero_sub]

/-- The values' block at an index. -/
theorem pay6_apply : k0_pay6 (F := Ideal) u w (ix2 r n) = zB u w r n := by
  unfold zB
  pointwise [k0_pay6]

/-- The output gate's block at an index. -/
theorem pay7_apply : k0_pay7 (F := Ideal) u w (ix2 r n) = zB u w r n * sgm (zB u w r n) := by
  unfold zB sgm
  pointwise [k0_pay7]
  simp only [zero_sub]

/-- The gated linear unit's block at an index. -/
theorem pay9_apply : k0_pay9 (F := Ideal) (k0_pay8 u w) u w' (ix2 r n) = zB u w r n * sgm (zB u w' r n) := by
  unfold zB sgm
  pointwise [k0_pay9, k0_pay8]
  simp only [zero_sub]

/-- The first merging gate's block at an index. -/
theorem pay1_apply : k0_pay1 (F := Ideal) u w (ix2 r n) = sgm (zB u w r n) := by
  unfold zB sgm
  pointwise [k0_pay1]
  simp only [zero_sub]

/-- The second merging gate's block at an index. -/
theorem pay2_apply : k0_pay2 (F := Ideal) u w (ix2 r n) = sgm (zB u w r n) := by
  unfold zB sgm
  pointwise [k0_pay2]
  simp only [zero_sub]

end

/-- The normalised and modulated block at an index. -/
theorem uB_apply (x0 : Vec Ideal S256x1024 .f32) (x1 : Vec Ideal S1x6x1024 .f32) (x2 : Vec Ideal S1x1024 .f32) (r : Fin 256) (n : Fin 1024) :
    uB x0 x1 x2 (ix2 r n) = x0 (ix2 r n) * Ideal.rsqrt (Ideal.div (∑ k : Fin 1024, x0 (ix2 r k) * x0 (ix2 r k)) (Ideal.ofBits .f32 0x44800000#32)
      + Ideal.ofBits .f32 0x358637BD#32) * x2 (ix2 0 n) * (1 + x1 (ix3 0 1 n)) + x1 (ix3 0 0 n) := by
  unfold uB
  pointwise [k0_pay3]

/-- Columns 0 to 1023 of the weights. -/
theorem wB0_apply (x4 : Vec Ideal S1024x8192 .bf16) (k n : Fin 1024) : wB0 x4 (ix2 k n) = x4 (ix2 k ⟨n.val, by omega⟩) := by
  show x4 _ = x4 _
  congr 1
  funext a
  apply Fin.ext
  match a with
  | ⟨0, _⟩ => show 0 + 1 * k.val = k.val; omega
  | ⟨1, _⟩ => show 0 + 1 * n.val = n.val; omega

/-- Columns 1024 to 2047 of the weights. -/
theorem wB1_apply (x4 : Vec Ideal S1024x8192 .bf16) (k n : Fin 1024) : wB1 x4 (ix2 k n) = x4 (ix2 k ⟨1024 + n.val, by omega⟩) := by
  show x4 _ = x4 _
  congr 1
  funext a
  apply Fin.ext
  match a with
  | ⟨0, _⟩ => show 0 + 1 * k.val = k.val; omega
  | ⟨1, _⟩ => show 1024 + 1 * n.val = 1024 + n.val; omega

/-- Columns 2048 to 3071 of the weights. -/
theorem wB2_apply (x4 : Vec Ideal S1024x8192 .bf16) (k n : Fin 1024) : wB2 x4 (ix2 k n) = x4 (ix2 k ⟨2048 + n.val, by omega⟩) := by
  show x4 _ = x4 _
  congr 1
  funext a
  apply Fin.ext
  match a with
  | ⟨0, _⟩ => show 0 + 1 * k.val = k.val; omega
  | ⟨1, _⟩ => show 2048 + 1 * n.val = 2048 + n.val; omega

/-- Columns 3072 to 4095 of the weights. -/
theorem wB3_apply (x4 : Vec Ideal S1024x8192 .bf16) (k n : Fin 1024) : wB3 x4 (ix2 k n) = x4 (ix2 k ⟨3072 + n.val, by omega⟩) := by
  show x4 _ = x4 _
  congr 1
  funext a
  apply Fin.ext
  match a with
  | ⟨0, _⟩ => show 0 + 1 * k.val = k.val; omega
  | ⟨1, _⟩ => show 3072 + 1 * n.val = 3072 + n.val; omega

/-- Columns 4096 to 5119 of the weights. -/
theorem wB4_apply (x4 : Vec Ideal S1024x8192 .bf16) (k n : Fin 1024) : wB4 x4 (ix2 k n) = x4 (ix2 k ⟨4096 + n.val, by omega⟩) := by
  show x4 _ = x4 _
  congr 1
  funext a
  apply Fin.ext
  match a with
  | ⟨0, _⟩ => show 0 + 1 * k.val = k.val; omega
  | ⟨1, _⟩ => show 4096 + 1 * n.val = 4096 + n.val; omega

/-- Columns 5120 to 6143 of the weights. -/
theorem wB5_apply (x4 : Vec Ideal S1024x8192 .bf16) (k n : Fin 1024) : wB5 x4 (ix2 k n) = x4 (ix2 k ⟨5120 + n.val, by omega⟩) := by
  show x4 _ = x4 _
  congr 1
  funext a
  apply Fin.ext
  match a with
  | ⟨0, _⟩ => show 0 + 1 * k.val = k.val; omega
  | ⟨1, _⟩ => show 5120 + 1 * n.val = 5120 + n.val; omega

/-- Columns 6144 to 7167 of the weights. -/
theorem wB6_apply (x4 : Vec Ideal S1024x8192 .bf16) (k n : Fin 1024) : wB6 x4 (ix2 k n) = x4 (ix2 k ⟨6144 + n.val, by omega⟩) := by
  show x4 _ = x4 _
  congr 1
  funext a
  apply Fin.ext
  match a with
  | ⟨0, _⟩ => show 0 + 1 * k.val = k.val; omega
  | ⟨1, _⟩ => show 6144 + 1 * n.val = 6144 + n.val; omega

/-- Columns 7168 to 8191 of the weights. -/
theorem wB7_apply (x4 : Vec Ideal S1024x8192 .bf16) (k n : Fin 1024) : wB7 x4 (ix2 k n) = x4 (ix2 k ⟨7168 + n.val, by omega⟩) := by
  show x4 _ = x4 _
  congr 1
  funext a
  apply Fin.ext
  match a with
  | ⟨0, _⟩ => show 0 + 1 * k.val = k.val; omega
  | ⟨1, _⟩ => show 7168 + 1 * n.val = 7168 + n.val; omega

theorem N_eq : cfg0.N = 64 := by decide +kernel
theorem idx0 : ∀ t : Fin grid0.N, win0_0.index t 0 = t.val ∧ win0_0.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx1 : ∀ t : Fin grid0.N, win0_1.index t 0 = t.val / 8 ∧ win0_1.index t 1 = 0 ∧ win0_1.index t 2 = 0 := by decide +kernel

variable (m : (ℓ : Loc nD τ sig) → Buf (Elt Ideal) ℓ)

/-- A stack of 8 sequences laid out as rows. -/
theorem rows_apply (x : FVec Ideal S8x2048x1024 .f32) (r : Fin 16384) (n : Fin 1024) :
    shapeCast S16384x1024 x shapeCasts_S8x2048x1024_S16384x1024 (ix2 r n) = x (ix3 ⟨r.val / 2048, by omega⟩ ⟨r.val % 2048, by omega⟩ n) := by
  pointwise []

/-- The rows the host hands the call. -/
theorem V0 (c : Dev nD) (r : Fin 16384) (n : Fin 1024) : (V m c main_v0 : FVec Ideal S16384x1024 .f32) (ix2 r n)
    = (m ((c : Thread nD τ).loc main_arg0) : FVec Ideal S8x2048x1024 .f32) (ix3 ⟨r.val / 2048, by omega⟩ ⟨r.val % 2048, by omega⟩ n) := by
  have e : (V m c main_v0 : FVec Ideal S16384x1024 .f32) = shapeCast S16384x1024 (m ((c : Thread nD τ).loc main_arg0) : FVec Ideal S8x2048x1024 .f32) shapeCasts_S8x2048x1024_S16384x1024 := by
    unfold V
    simp only [hostOps0]
    after_results
    try rfl
  rw [e]
  exact rows_apply _ r n

/-- The norm's weights the host hands the call. -/
theorem V2 (c : Dev nD) : (V m c main_v2 : FVec Ideal S1x1024 .f32) = (m ((c : Thread nD τ).loc main_arg2) : FVec Ideal S1x1024 .f32) := by
  have e : (V m c main_v2 : FVec Ideal S1x1024 .f32) = shapeCast S1x1024 (shapeCast S1024 (m ((c : Thread nD τ).loc main_arg2) : FVec Ideal S1x1024 .f32) shapeCasts_S1x1024_S1024) shapeCasts_S1024_S1x1024 := by
    unfold V
    simp only [hostOps0]
    after_results
    try rfl
  rw [e, shapeCast_shapeCast]

/-- The weights the host hands the call. -/
theorem V4 (c : Dev nD) (k : Fin 1024) (n : Fin 8192) : (V m c main_v4 : FVec Ideal S1024x8192 .bf16) (ix2 k n)
    = (m ((c : Thread nD τ).loc main_arg4) : FVec Ideal S1x1024x8192 .f32) (ix3 0 k n) := by
  have e : (V m c main_v4 : FVec Ideal S1024x8192 .bf16) = truncf (F := Ideal) .bf16 (shapeCast S1024x8192 (m ((c : Thread nD τ).loc main_arg4) : FVec Ideal S1x1024x8192 .f32) shapeCasts_S1x1024x8192_S1024x8192) bitsLt_bf16_f32 := by
    unfold V
    simp only [hostOps0]
    after_results
    try rfl
  rw [e]
  exact ValueIdx.shapeCast_1ab_ab_apply (a := 1024) (b := 8192) (m ((c : Thread nD τ).loc main_arg4) : FVec Ideal S1x1024x8192 .f32) shapeCasts_S1x1024x8192_S1024x8192 k n

/-- Window 0's block at an index. -/
theorem blk0_apply (c : Dev nD) (t : Fin cfg0.N) (r : Fin 256) (k : Fin 1024) :
    (iblk m c 0 t : Vec Ideal S256x1024 .f32) (ix2 r k) = (m ((c : Thread nD τ).loc main_arg0) : FVec Ideal S8x2048x1024 .f32)
      (ix3 ⟨(256 * t.val + r.val) / 2048, by have := lt_of_lt_of_eq t.isLt N_eq; omega⟩ ⟨(256 * t.val + r.val) % 2048, by omega⟩ k) := by
  refine Eq.trans ?_ (V0 m c ⟨256 * t.val + r.val, by have := lt_of_lt_of_eq t.isLt N_eq; omega⟩ k)
  unfold iblk
  rw [View.read_apply]
  show V m c main_v0 _ = V m c main_v0 _
  congr 1
  funext a
  apply Fin.ext
  match a with
  | ⟨0, _⟩ => show win0_0.index t 0 * 256 + 1 * r.val = 256 * t.val + r.val; rw [(idx0 t).1]; omega
  | ⟨1, _⟩ => show win0_0.index t 1 * 1024 + 1 * k.val = k.val; rw [(idx0 t).2]; omega

/-- Window 1's block at an index. -/
theorem blk1_apply (c : Dev nD) (t : Fin cfg0.N) (j : Fin 6) (k : Fin 1024) :
    (iblk m c 1 t : Vec Ideal S1x6x1024 .f32) (ix3 0 j k) = (m ((c : Thread nD τ).loc main_arg1) : FVec Ideal S8x6x1024 .f32)
      (ix3 ⟨t.val / 8, by have := lt_of_lt_of_eq t.isLt N_eq; omega⟩ j k) := by
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 8; rw [(idx1 t).1]; omega
  | ⟨1, _⟩ => show win0_1.index t 1 * 6 + 1 * j.val = j.val; rw [(idx1 t).2.1]; omega
  | ⟨2, _⟩ => show win0_1.index t 2 * 1024 + 1 * k.val = k.val; rw [(idx1 t).2.2]; omega

/-- Window 2's block at an index. -/
theorem blk2_apply (c : Dev nD) (t : Fin cfg0.N) (k : Fin 1024) :
    (iblk m c 2 t : Vec Ideal S1x1024 .f32) (ix2 0 k) = (m ((c : Thread nD τ).loc main_arg2) : FVec Ideal S1x1024 .f32) (ix2 0 k) := by
  refine Eq.trans ?_ (congrFun (V2 m c) (ix2 0 k))
  unfold iblk
  rw [View.read_apply]
  show V m c main_v2 _ = V m c main_v2 _
  congr 1
  funext a
  apply Fin.ext
  match a with
  | ⟨0, _⟩ => show win0_2.index t 0 * 1 + 1 * 0 = 0; rw [(idx2 t).1]
  | ⟨1, _⟩ => show win0_2.index t 1 * 1024 + 1 * k.val = k.val; rw [(idx2 t).2]; omega

/-- Window 3's block is the whole of the bounds' logits. -/
theorem blk3_eq (c : Dev nD) (t : Fin cfg0.N) :
    (iblk m c 3 t : Vec Ideal S2x1024 .f32) = (m ((c : Thread nD τ).loc main_arg3) : FVec Ideal S2x1024 .f32) := by
  funext y
  obtain ⟨j, k, rfl⟩ : ∃ (j : Fin 2) (k : Fin 1024), y = ix2 j k := ⟨y 0, y 1, eq_ix2 y⟩
  unfold iblk
  rw [View.read_apply]
  show V m c main_arg3 _ = m (c.tc.loc main_arg3) _
  rw [V_main_arg3]
  congr 1
  funext a
  apply Fin.ext
  match a with
  | ⟨0, _⟩ => show win0_3.index t 0 * 2 + 1 * j.val = j.val; rw [(idx3 t).1]; omega
  | ⟨1, _⟩ => show win0_3.index t 1 * 1024 + 1 * k.val = k.val; rw [(idx3 t).2]; omega

/-- Window 4's block at an index. -/
theorem blk4_apply (c : Dev nD) (t : Fin cfg0.N) (k : Fin 1024) (n : Fin 8192) :
    (iblk m c 4 t : Vec Ideal S1024x8192 .bf16) (ix2 k n) = (m ((c : Thread nD τ).loc main_arg4) : FVec Ideal S1x1024x8192 .f32) (ix3 0 k n) := by
  refine Eq.trans ?_ (V4 m c k n)
  unfold iblk
  rw [View.read_apply]
  show V m c main_v4 _ = V m c main_v4 _
  congr 1
  funext a
  apply Fin.ext
  match a with
  | ⟨0, _⟩ => show win0_4.index t 0 * 1024 + 1 * k.val = k.val; rw [(idx4 t).1]; omega
  | ⟨1, _⟩ => show win0_4.index t 1 * 8192 + 1 * n.val = n.val; rw [(idx4 t).2]; omega

/-- The normalised block is rows of the reference's normalised input. -/
theorem u_eq (c : Dev nD) (t : Fin cfg0.N) (r : Fin 256) (k : Fin 1024) :
    uB (iblk m c 0 t) (iblk m c 1 t) (iblk m c 2 t) (ix2 r k)
      = uR (m ((c : Thread nD τ).loc main_arg0)) (m ((c : Thread nD τ).loc main_arg1)) (m ((c : Thread nD τ).loc main_arg2)) ⟨256 * t.val + r.val, by have := lt_of_lt_of_eq t.isLt N_eq; omega⟩ k := by
  have e : (256 * t.val + r.val) / 2048 = t.val / 8 := by omega
  refine (uB_apply (iblk m c 0 t) (iblk m c 1 t) (iblk m c 2 t) r k).trans ?_
  simp only [blk0_apply, blk1_apply, blk2_apply]
  unfold uR
  simp only [e]

/-- A block of the projection is a block of the reference's. -/
theorem z_eq (c : Dev nD) (t : Fin cfg0.N) (w : Vec Ideal S1024x1024 .bf16) (r : Fin 256) (n : Fin 1024) (j : Fin 8192)
    (hw : ∀ k : Fin 1024, w (ix2 k n) = (m ((c : Thread nD τ).loc main_arg4) : FVec Ideal S1x1024x8192 .f32) (ix3 0 k j)) :
    zB (uB (iblk m c 0 t) (iblk m c 1 t) (iblk m c 2 t)) w r n
      = zR (m ((c : Thread nD τ).loc main_arg0)) (m ((c : Thread nD τ).loc main_arg1)) (m ((c : Thread nD τ).loc main_arg2)) (m ((c : Thread nD τ).loc main_arg4)) ⟨256 * t.val + r.val, by have := lt_of_lt_of_eq t.isLt N_eq; omega⟩ j := by
  unfold zB zR
  exact Finset.sum_congr rfl fun k _ => by rw [u_eq, hw k]

/-- Where an index of the queries' block lies in the array. -/
theorem emb5 (t : Fin cfg0.N) (r : Fin 256) (k : Fin 1024) :
    (((cfg0.win 5).blk t).view.emb (ix2 r k) : S16384x1024.Idx) = ix2 ⟨256 * t.val + r.val, by have := lt_of_lt_of_eq t.isLt N_eq; omega⟩ k := by
  funext a
  apply Fin.ext
  match a with
  | ⟨0, _⟩ => show win0_5.index t 0 * 256 + 1 * r.val = 256 * t.val + r.val; rw [(idx5 t).1]; omega
  | ⟨1, _⟩ => show win0_5.index t 1 * 1024 + 1 * k.val = k.val; rw [(idx5 t).2]; omega

/-- The kernel's queries are the reference's. -/
theorem arr5 (c : Dev nD) : (dats m 0 c).arrAt 5 cfg0.N = Cert.Reference2Ideal.Read.val_main_v61 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_cover 5 _ (fun t _ => ?_) (fun i => ?_)
  · rw [(Cert.Kernel2Ideal.Value.flushed5_A m c t).trans (congrArg _ (out5 c (grid0.coords t) _ _ _ _ _ _ _ _ _ _ _ _ _ _ _ _ _ _ _ _ _ _ _ _ _ _ _ _ (iblk m c 0 t) (iblk m c 1 t) (iblk m c 2 t) (iblk m c 3 t) (iblk m c 4 t)))]
    have ht := lt_of_lt_of_eq t.isLt N_eq
    funext y
    obtain ⟨r, k, rfl⟩ : ∃ (r : Fin 256) (k : Fin 1024), y = ix2 r k := ⟨y 0, y 1, eq_ix2 y⟩
    rw [View.read_apply, emb5]
    refine (pay4_apply _ _ r k).trans (Eq.trans ?_ (Cert.Reference2Ideal.InProj.v61_apply _ _ _ _ _ k).symm)
    have z0 := z_eq m c t (wB0 (iblk m c 4 t)) r k ⟨k.val, by omega⟩ (fun q => (wB0_apply (iblk m c 4 t) q k).trans (blk4_apply m c t q _))
    rw [z0]
  · obtain ⟨r, k, rfl⟩ : ∃ (r : Fin 16384) (k : Fin 1024), i = ix2 r k := ⟨i 0, i 1, eq_ix2 i⟩
    have ht : r.val / 256 < cfg0.N := by rw [N_eq]; omega
    refine ⟨⟨_, ht⟩, flush0_5 _, ?_⟩
    have e := emb5 ⟨_, ht⟩ ⟨r.val % 256, by omega⟩ k
    have e' : (((cfg0.win 5).blk ⟨_, ht⟩).view.emb (ix2 (⟨r.val % 256, by omega⟩ : Fin 256) k) : S16384x1024.Idx) = ix2 r k :=
      e.trans (congrArg₂ ix2 (Fin.ext (by dsimp only; omega)) rfl)
    rw [← e']
    exact View.emb_mem_set _ _

/-- Where an index of the decays' block lies in the array. -/
theorem emb6 (t : Fin cfg0.N) (r : Fin 256) (k : Fin 1024) :
    (((cfg0.win 6).blk t).view.emb (ix2 r k) : S16384x1024.Idx) = ix2 ⟨256 * t.val + r.val, by have := lt_of_lt_of_eq t.isLt N_eq; omega⟩ k := by
  funext a
  apply Fin.ext
  match a with
  | ⟨0, _⟩ => show win0_6.index t 0 * 256 + 1 * r.val = 256 * t.val + r.val; rw [(idx6 t).1]; omega
  | ⟨1, _⟩ => show win0_6.index t 1 * 1024 + 1 * k.val = k.val; rw [(idx6 t).2]; omega

/-- The kernel's decays are the reference's. -/
theorem arr6 (c : Dev nD) : (dats m 0 c).arrAt 6 cfg0.N = Cert.Reference2Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 6 _ (fun t _ => ?_) (fun i => ?_)
  · rw [(Cert.Kernel2Ideal.Value.flushed6_A m c t).trans (congrArg _ (out6 c (grid0.coords t) _ _ _ _ _ _ _ _ _ _ _ _ _ _ _ _ _ _ _ _ _ _ _ _ _ _ _ _ (iblk m c 0 t) (iblk m c 1 t) (iblk m c 2 t) (iblk m c 3 t) (iblk m c 4 t)))]
    have ht := lt_of_lt_of_eq t.isLt N_eq
    funext y
    obtain ⟨r, k, rfl⟩ : ∃ (r : Fin 256) (k : Fin 1024), y = ix2 r k := ⟨y 0, y 1, eq_ix2 y⟩
    rw [View.read_apply, emb6]
    refine (pay5_apply _ _ _ r k).trans (Eq.trans ?_ (Cert.Reference2Ideal.InProj.v60_apply _ _ _ _ _ _ k).symm)
    have z1 := z_eq m c t (wB1 (iblk m c 4 t)) r k ⟨1024 + k.val, by omega⟩ (fun q => (wB1_apply (iblk m c 4 t) q k).trans (blk4_apply m c t q _))
    rw [z1, blk3_eq]
  · obtain ⟨r, k, rfl⟩ : ∃ (r : Fin 16384) (k : Fin 1024), i = ix2 r k := ⟨i 0, i 1, eq_ix2 i⟩
    have ht : r.val / 256 < cfg0.N := by rw [N_eq]; omega
    refine ⟨⟨_, ht⟩, flush0_6 _, ?_⟩
    have e := emb6 ⟨_, ht⟩ ⟨r.val % 256, by omega⟩ k
    have e' : (((cfg0.win 6).blk ⟨_, ht⟩).view.emb (ix2 (⟨r.val % 256, by omega⟩ : Fin 256) k) : S16384x1024.Idx) = ix2 r k :=
      e.trans (congrArg₂ ix2 (Fin.ext (by dsimp only; omega)) rfl)
    rw [← e']
    exact View.emb_mem_set _ _

/-- Where an index of the values' block lies in the array. -/
theorem emb7 (t : Fin cfg0.N) (r : Fin 256) (k : Fin 1024) :
    (((cfg0.win 7).blk t).view.emb (ix2 r k) : S16384x1024.Idx) = ix2 ⟨256 * t.val + r.val, by have := lt_of_lt_of_eq t.isLt N_eq; omega⟩ k := by
  funext a
  apply Fin.ext
  match a with
  | ⟨0, _⟩ => show win0_7.index t 0 * 256 + 1 * r.val = 256 * t.val + r.val; rw [(idx7 t).1]; omega
  | ⟨1, _⟩ => show win0_7.index t 1 * 1024 + 1 * k.val = k.val; rw [(idx7 t).2]; omega

/-- The kernel's values are the reference's. -/
theorem arr7 (c : Dev nD) : (dats m 0 c).arrAt 7 cfg0.N = Cert.Reference2Ideal.Read.val_main_v62 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_cover 7 _ (fun t _ => ?_) (fun i => ?_)
  · rw [(Cert.Kernel2Ideal.Value.flushed7_A m c t).trans (congrArg _ (out7 c (grid0.coords t) _ _ _ _ _ _ _ _ _ _ _ _ _ _ _ _ _ _ _ _ _ _ _ _ _ _ _ _ (iblk m c 0 t) (iblk m c 1 t) (iblk m c 2 t) (iblk m c 3 t) (iblk m c 4 t)))]
    have ht := lt_of_lt_of_eq t.isLt N_eq
    funext y
    obtain ⟨r, k, rfl⟩ : ∃ (r : Fin 256) (k : Fin 1024), y = ix2 r k := ⟨y 0, y 1, eq_ix2 y⟩
    rw [View.read_apply, emb7]
    refine (pay6_apply _ _ r k).trans (Eq.trans ?_ (Cert.Reference2Ideal.InProj.v62_apply _ _ _ _ _ k).symm)
    have z2 := z_eq m c t (wB2 (iblk m c 4 t)) r k ⟨2048 + k.val, by omega⟩ (fun q => (wB2_apply (iblk m c 4 t) q k).trans (blk4_apply m c t q _))
    rw [z2]
  · obtain ⟨r, k, rfl⟩ : ∃ (r : Fin 16384) (k : Fin 1024), i = ix2 r k := ⟨i 0, i 1, eq_ix2 i⟩
    have ht : r.val / 256 < cfg0.N := by rw [N_eq]; omega
    refine ⟨⟨_, ht⟩, flush0_7 _, ?_⟩
    have e := emb7 ⟨_, ht⟩ ⟨r.val % 256, by omega⟩ k
    have e' : (((cfg0.win 7).blk ⟨_, ht⟩).view.emb (ix2 (⟨r.val % 256, by omega⟩ : Fin 256) k) : S16384x1024.Idx) = ix2 r k :=
      e.trans (congrArg₂ ix2 (Fin.ext (by dsimp only; omega)) rfl)
    rw [← e']
    exact View.emb_mem_set _ _

/-- Where an index of the output gate's block lies in the array. -/
theorem emb8 (t : Fin cfg0.N) (r : Fin 256) (k : Fin 1024) :
    (((cfg0.win 8).blk t).view.emb (ix2 r k) : S16384x1024.Idx) = ix2 ⟨256 * t.val + r.val, by have := lt_of_lt_of_eq t.isLt N_eq; omega⟩ k := by
  funext a
  apply Fin.ext
  match a with
  | ⟨0, _⟩ => show win0_8.index t 0 * 256 + 1 * r.val = 256 * t.val + r.val; rw [(idx8 t).1]; omega
  | ⟨1, _⟩ => show win0_8.index t 1 * 1024 + 1 * k.val = k.val; rw [(idx8 t).2]; omega

/-- The kernel's output gate is the reference's. -/
theorem arr8 (c : Dev nD) : (dats m 0 c).arrAt 8 cfg0.N = Cert.Reference2Ideal.Read.val_main_v64 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_cover 8 _ (fun t _ => ?_) (fun i => ?_)
  · rw [(Cert.Kernel2Ideal.Value.flushed8_A m c t).trans (congrArg _ (out8 c (grid0.coords t) _ _ _ _ _ _ _ _ _ _ _ _ _ _ _ _ _ _ _ _ _ _ _ _ _ _ _ _ (iblk m c 0 t) (iblk m c 1 t) (iblk m c 2 t) (iblk m c 3 t) (iblk m c 4 t)))]
    have ht := lt_of_lt_of_eq t.isLt N_eq
    funext y
    obtain ⟨r, k, rfl⟩ : ∃ (r : Fin 256) (k : Fin 1024), y = ix2 r k := ⟨y 0, y 1, eq_ix2 y⟩
    rw [View.read_apply, emb8]
    refine (pay7_apply _ _ r k).trans (Eq.trans ?_ (Cert.Reference2Ideal.InProj.v64_apply _ _ _ _ _ k).symm)
    have z3 := z_eq m c t (wB3 (iblk m c 4 t)) r k ⟨3072 + k.val, by omega⟩ (fun q => (wB3_apply (iblk m c 4 t) q k).trans (blk4_apply m c t q _))
    rw [z3]
  · obtain ⟨r, k, rfl⟩ : ∃ (r : Fin 16384) (k : Fin 1024), i = ix2 r k := ⟨i 0, i 1, eq_ix2 i⟩
    have ht : r.val / 256 < cfg0.N := by rw [N_eq]; omega
    refine ⟨⟨_, ht⟩, flush0_8 _, ?_⟩
    have e := emb8 ⟨_, ht⟩ ⟨r.val % 256, by omega⟩ k
    have e' : (((cfg0.win 8).blk ⟨_, ht⟩).view.emb (ix2 (⟨r.val % 256, by omega⟩ : Fin 256) k) : S16384x1024.Idx) = ix2 r k :=
      e.trans (congrArg₂ ix2 (Fin.ext (by dsimp only; omega)) rfl)
    rw [← e']
    exact View.emb_mem_set _ _

/-- Where an index of the gated linear unit's block lies in the array. -/
theorem emb9 (t : Fin cfg0.N) (r : Fin 256) (k : Fin 1024) :
    (((cfg0.win 9).blk t).view.emb (ix2 r k) : S16384x1024.Idx) = ix2 ⟨256 * t.val + r.val, by have := lt_of_lt_of_eq t.isLt N_eq; omega⟩ k := by
  funext a
  apply Fin.ext
  match a with
  | ⟨0, _⟩ => show win0_9.index t 0 * 256 + 1 * r.val = 256 * t.val + r.val; rw [(idx9 t).1]; omega
  | ⟨1, _⟩ => show win0_9.index t 1 * 1024 + 1 * k.val = k.val; rw [(idx9 t).2]; omega

/-- The kernel's gated linear unit is the reference's. -/
theorem arr9 (c : Dev nD) : (dats m 0 c).arrAt 9 cfg0.N = Cert.Reference2Ideal.Read.val_main_v71 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_cover 9 _ (fun t _ => ?_) (fun i => ?_)
  · rw [(Cert.Kernel2Ideal.Value.flushed9_A m c t).trans (congrArg _ (out9 c (grid0.coords t) _ _ _ _ _ _ _ _ _ _ _ _ _ _ _ _ _ _ _ _ _ _ _ _ _ _ _ _ (iblk m c 0 t) (iblk m c 1 t) (iblk m c 2 t) (iblk m c 3 t) (iblk m c 4 t)))]
    have ht := lt_of_lt_of_eq t.isLt N_eq
    funext y
    obtain ⟨r, k, rfl⟩ : ∃ (r : Fin 256) (k : Fin 1024), y = ix2 r k := ⟨y 0, y 1, eq_ix2 y⟩
    rw [View.read_apply, emb9]
    refine (pay9_apply _ _ _ r k).trans (Eq.trans ?_ (Cert.Reference2Ideal.InProj.v71_apply _ _ _ _ _ k).symm)
    have z4 := z_eq m c t (wB4 (iblk m c 4 t)) r k ⟨4096 + k.val, by omega⟩ (fun q => (wB4_apply (iblk m c 4 t) q k).trans (blk4_apply m c t q _))
    have z5 := z_eq m c t (wB5 (iblk m c 4 t)) r k ⟨5120 + k.val, by omega⟩ (fun q => (wB5_apply (iblk m c 4 t) q k).trans (blk4_apply m c t q _))
    rw [z4, z5]
  · obtain ⟨r, k, rfl⟩ : ∃ (r : Fin 16384) (k : Fin 1024), i = ix2 r k := ⟨i 0, i 1, eq_ix2 i⟩
    have ht : r.val / 256 < cfg0.N := by rw [N_eq]; omega
    refine ⟨⟨_, ht⟩, flush0_9 _, ?_⟩
    have e := emb9 ⟨_, ht⟩ ⟨r.val % 256, by omega⟩ k
    have e' : (((cfg0.win 9).blk ⟨_, ht⟩).view.emb (ix2 (⟨r.val % 256, by omega⟩ : Fin 256) k) : S16384x1024.Idx) = ix2 r k :=
      e.trans (congrArg₂ ix2 (Fin.ext (by dsimp only; omega)) rfl)
    rw [← e']
    exact View.emb_mem_set _ _

/-- Where an index of the first merging gate's block lies in the array. -/
theorem emb10 (t : Fin cfg0.N) (r : Fin 256) (k : Fin 1024) :
    (((cfg0.win 10).blk t).view.emb (ix2 r k) : S16384x1024.Idx) = ix2 ⟨256 * t.val + r.val, by have := lt_of_lt_of_eq t.isLt N_eq; omega⟩ k := by
  funext a
  apply Fin.ext
  match a with
  | ⟨0, _⟩ => show win0_10.index t 0 * 256 + 1 * r.val = 256 * t.val + r.val; rw [(idx10 t).1]; omega
  | ⟨1, _⟩ => show win0_10.index t 1 * 1024 + 1 * k.val = k.val; rw [(idx10 t).2]; omega

/-- The kernel's first merging gate is the reference's. -/
theorem arr10 (c : Dev nD) : (dats m 0 c).arrAt 10 cfg0.N = Cert.Reference2Ideal.Read.val_main_v78 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_cover 10 _ (fun t _ => ?_) (fun i => ?_)
  · rw [(Cert.Kernel2Ideal.Value.flushed10_A m c t).trans (congrArg _ (out10 c (grid0.coords t) _ _ _ _ _ _ _ _ _ _ _ _ _ _ _ _ _ _ _ _ _ _ _ _ _ _ _ _ (iblk m c 0 t) (iblk m c 1 t) (iblk m c 2 t) (iblk m c 3 t) (iblk m c 4 t)))]
    have ht := lt_of_lt_of_eq t.isLt N_eq
    funext y
    obtain ⟨r, k, rfl⟩ : ∃ (r : Fin 256) (k : Fin 1024), y = ix2 r k := ⟨y 0, y 1, eq_ix2 y⟩
    rw [View.read_apply, emb10]
    refine (pay1_apply _ _ r k).trans (Eq.trans ?_ (Cert.Reference2Ideal.InProj.v78_apply _ _ _ _ _ k).symm)
    have z6 := z_eq m c t (wB6 (iblk m c 4 t)) r k ⟨6144 + k.val, by omega⟩ (fun q => (wB6_apply (iblk m c 4 t) q k).trans (blk4_apply m c t q _))
    rw [z6]
  · obtain ⟨r, k, rfl⟩ : ∃ (r : Fin 16384) (k : Fin 1024), i = ix2 r k := ⟨i 0, i 1, eq_ix2 i⟩
    have ht : r.val / 256 < cfg0.N := by rw [N_eq]; omega
    refine ⟨⟨_, ht⟩, flush0_10 _, ?_⟩
    have e := emb10 ⟨_, ht⟩ ⟨r.val % 256, by omega⟩ k
    have e' : (((cfg0.win 10).blk ⟨_, ht⟩).view.emb (ix2 (⟨r.val % 256, by omega⟩ : Fin 256) k) : S16384x1024.Idx) = ix2 r k :=
      e.trans (congrArg₂ ix2 (Fin.ext (by dsimp only; omega)) rfl)
    rw [← e']
    exact View.emb_mem_set _ _

/-- Where an index of the second merging gate's block lies in the array. -/
theorem emb11 (t : Fin cfg0.N) (r : Fin 256) (k : Fin 1024) :
    (((cfg0.win 11).blk t).view.emb (ix2 r k) : S16384x1024.Idx) = ix2 ⟨256 * t.val + r.val, by have := lt_of_lt_of_eq t.isLt N_eq; omega⟩ k := by
  funext a
  apply Fin.ext
  match a with
  | ⟨0, _⟩ => show win0_11.index t 0 * 256 + 1 * r.val = 256 * t.val + r.val; rw [(idx11 t).1]; omega
  | ⟨1, _⟩ => show win0_11.index t 1 * 1024 + 1 * k.val = k.val; rw [(idx11 t).2]; omega

/-- The kernel's second merging gate is the reference's. -/
theorem arr11 (c : Dev nD) : (dats m 0 c).arrAt 11 cfg0.N = Cert.Reference2Ideal.Read.val_main_v85 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_cover 11 _ (fun t _ => ?_) (fun i => ?_)
  · rw [(Cert.Kernel2Ideal.Value.flushed11_A m c t).trans (congrArg _ (out11 c (grid0.coords t) _ _ _ _ _ _ _ _ _ _ _ _ _ _ _ _ _ _ _ _ _ _ _ _ _ _ _ _ (iblk m c 0 t) (iblk m c 1 t) (iblk m c 2 t) (iblk m c 3 t) (iblk m c 4 t)))]
    have ht := lt_of_lt_of_eq t.isLt N_eq
    funext y
    obtain ⟨r, k, rfl⟩ : ∃ (r : Fin 256) (k : Fin 1024), y = ix2 r k := ⟨y 0, y 1, eq_ix2 y⟩
    rw [View.read_apply, emb11]
    refine (pay2_apply _ _ r k).trans (Eq.trans ?_ (Cert.Reference2Ideal.InProj.v85_apply _ _ _ _ _ k).symm)
    have z7 := z_eq m c t (wB7 (iblk m c 4 t)) r k ⟨7168 + k.val, by omega⟩ (fun q => (wB7_apply (iblk m c 4 t) q k).trans (blk4_apply m c t q _))
    rw [z7]
  · obtain ⟨r, k, rfl⟩ : ∃ (r : Fin 16384) (k : Fin 1024), i = ix2 r k := ⟨i 0, i 1, eq_ix2 i⟩
    have ht : r.val / 256 < cfg0.N := by rw [N_eq]; omega
    refine ⟨⟨_, ht⟩, flush0_11 _, ?_⟩
    have e := emb11 ⟨_, ht⟩ ⟨r.val % 256, by omega⟩ k
    have e' : (((cfg0.win 11).blk ⟨_, ht⟩).view.emb (ix2 (⟨r.val % 256, by omega⟩ : Fin 256) k) : S16384x1024.Idx) = ix2 r k :=
      e.trans (congrArg₂ ix2 (Fin.ext (by dsimp only; omega)) rfl)
    rw [← e']
    exact View.emb_mem_set _ _

end Cert.Kernel2Ideal.InProj

namespace Cert.Proof

open Idealize.ShloMosaic Idealize.ShloMosaic.TcCoe

/-- The projection call computes its reference's seven results. -/
theorem algebraic2 : Cert.algebraic_Kernel2Ideal_Reference2Ideal := by
  intro m g m' g' _ hagree
  refine ⟨_, _, _, _, _, _, _, Cert.Kernel2Ideal.Value.run_blocks m g, ?_⟩
  refine (θ_run Cert.Reference2Ideal.defs _ _).mono (fun r h c => ?_) (Cert.Reference2Ideal.Value.run (F := Ideal) m' g')
  obtain ⟨h5, h6, h7, h8, h9, h10, h11, hargs⟩ := h c
  obtain ⟨a0, a1, a2, a3, a4⟩ := hagree c
  refine ⟨?_, ?_, ?_, ?_, ?_, ?_, ?_, hargs⟩
  · refine h5.trans ((Cert.Reference2Ideal.Read.val_main_v61_eq _ _ _ _).trans ?_)
    rw [a0, a1, a2, a4]
    exact (Cert.Kernel2Ideal.InProj.arr5 m c).symm
  · refine h6.trans ((Cert.Reference2Ideal.Read.val_main_v60_eq m' c).trans ?_)
    rw [a0, a1, a2, a3, a4]
    exact (Cert.Kernel2Ideal.InProj.arr6 m c).symm
  · refine h7.trans ((Cert.Reference2Ideal.Read.val_main_v62_eq _ _ _ _).trans ?_)
    rw [a0, a1, a2, a4]
    exact (Cert.Kernel2Ideal.InProj.arr7 m c).symm
  · refine h8.trans ((Cert.Reference2Ideal.Read.val_main_v64_eq _ _ _ _).trans ?_)
    rw [a0, a1, a2, a4]
    exact (Cert.Kernel2Ideal.InProj.arr8 m c).symm
  · refine h9.trans ((Cert.Reference2Ideal.Read.val_main_v71_eq _ _ _ _).trans ?_)
    rw [a0, a1, a2, a4]
    exact (Cert.Kernel2Ideal.InProj.arr9 m c).symm
  · refine h10.trans ((Cert.Reference2Ideal.Read.val_main_v78_eq _ _ _ _).trans ?_)
    rw [a0, a1, a2, a4]
    exact (Cert.Kernel2Ideal.InProj.arr10 m c).symm
  · refine h11.trans ((Cert.Reference2Ideal.Read.val_main_v85_eq _ _ _ _).trans ?_)
    rw [a0, a1, a2, a4]
    exact (Cert.Kernel2Ideal.InProj.arr11 m c).symm

end Cert.Proof

end
-- ==== Proof.Merge.lean ====
/- The merging call: what its kernel leaves is what its reference computes. -/
module

public import proofs.«01_k».proof.Defs
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pointwise
public import Idealize.ShloMosaic.Lib.ValueLayout

@[expose] public section

set_option maxRecDepth 8192
set_option maxHeartbeats 400000

noncomputable section

namespace Cert.Reference3Ideal.Merge

open Cert.Reference3Ideal Cert.Reference3Ideal.Gen Idealize.ShloMosaic Idealize.ShloMosaic.TcCoe
open Facts

/-- The reference's result at an index. -/
theorem val_apply (x0 x1 x2 x3 : FVec Ideal S16384x1024 .bf16) (x4 : FVec Ideal S8x2048x1024 .f32) (x5 : FVec Ideal S8x6x1024 .f32)
    (x6 x7 x8 : FVec Ideal S1x1024x1024 .f32) (r : Fin 16384) (n : Fin 1024) :
    Read.val_main_v18 (F := Ideal) x0 x1 x2 x3 x4 x5 x6 x7 x8 (ix2 r n)
      = x4 (ix3 ⟨r.val / 2048, by omega⟩ ⟨r.val % 2048, by omega⟩ n) + x5 (ix3 ⟨r.val / 2048, by omega⟩ 2 n) * ∑ k : Fin 1024,
          (x2 (ix2 r k) * (∑ j : Fin 1024, x0 (ix2 r j) * x6 (ix3 0 j k)) + x3 (ix2 r k) * ∑ j : Fin 1024, x1 (ix2 r j) * x7 (ix3 0 j k)) * x8 (ix3 0 k n) := by
  rw [← Read.val_main_v18_eq]
  pointwise []

end Cert.Reference3Ideal.Merge

namespace Cert.Kernel3Ideal.Merge

open Cert.Kernel3Ideal Cert.Kernel3Ideal.Gen Idealize.ShloMosaic Idealize.ShloMosaic.TcCoe
open Facts

/-- What the body stores, at an index. -/
theorem pay_apply (v0 v1 v2 v3 : Vec Ideal S512x1024 .bf16) (v4 : Vec Ideal S512x1024 .f32) (v5 : Vec Ideal S1x6x1024 .f32)
    (v6 v7 v8 : Vec Ideal S1024x1024 .bf16) (r : Fin 512) (n : Fin 1024) :
    k0_pay1 (F := Ideal) v0 v6 v1 v7 v2 v3 v5 v4 v8 (ix2 r n)
      = v4 (ix2 r n) + v5 (ix3 0 2 n) * ∑ k : Fin 1024,
          (v2 (ix2 r k) * (∑ j : Fin 1024, v0 (ix2 r j) * v6 (ix2 j k)) + v3 (ix2 r k) * ∑ j : Fin 1024, v1 (ix2 r j) * v7 (ix2 j k)) * v8 (ix2 k n) := by
  pointwise [k0_pay1]

theorem zero2 : (![0, 0] : Fin 2 → Nat) = fun _ => 0 := funext fun a => by fin_cases a <;> rfl
theorem zero3 : (![0, 0, 0] : Fin 3 → Nat) = fun _ => 0 := funext fun a => by fin_cases a <;> rfl

/-- The body's block is its one payload at the whole blocks. -/
theorem out_eq (x0 x1 x2 x3 : Vec Ideal S512x1024 .bf16) (x4 : Vec Ideal S512x1024 .f32) (x5 : Vec Ideal S1x6x1024 .f32)
    (x6 x7 x8 : Vec Ideal S1024x1024 .bf16) :
    out0_9 (F := Ideal) x0 x1 x2 x3 x4 x5 x6 x7 x8 = k0_pay1 x0 x6 x1 x7 x2 x3 x5 x4 x8 := by
  unfold out0_9
  rw [View.canon_unit_zero (S := S512x1024) zero2]
  simp only [View.ld_unit_zero (S := S512x1024) zero2, View.ld_unit_zero (S := S1024x1024) zero2, View.ld_unit_zero (S := S1x6x1024) zero3]

theorem N_eq : cfg0.N = 32 := by decide +kernel
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx9 : ∀ t : Fin grid0.N, win0_9.index t 0 = t.val ∧ win0_9.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx5 : ∀ t : Fin grid0.N, win0_5.index t 0 = t.val / 4 ∧ win0_5.index t 1 = 0 ∧ win0_5.index t 2 = 0 := by decide +kernel

variable (m : (ℓ : Loc nD τ sig) → Buf (Elt Ideal) ℓ)

/-- A stack of 8 sequences laid out as rows. -/
theorem rows_apply (x : FVec Ideal S8x2048x1024 .f32) (r : Fin 16384) (n : Fin 1024) :
    shapeCast S16384x1024 x shapeCasts_S8x2048x1024_S16384x1024 (ix2 r n) = x (ix3 ⟨r.val / 2048, by omega⟩ ⟨r.val % 2048, by omega⟩ n) := by
  pointwise []

/-- The rows the host hands the call. -/
theorem V0 (c : Dev nD) (r : Fin 16384) (n : Fin 1024) : (V m c main_v0 : FVec Ideal S16384x1024 .f32) (ix2 r n)
    = (m ((c : Thread nD τ).loc main_arg4) : FVec Ideal S8x2048x1024 .f32) (ix3 ⟨r.val / 2048, by omega⟩ ⟨r.val % 2048, by omega⟩ n) := by
  have e : (V m c main_v0 : FVec Ideal S16384x1024 .f32) = shapeCast S16384x1024 (m ((c : Thread nD τ).loc main_arg4) : FVec Ideal S8x2048x1024 .f32) shapeCasts_S8x2048x1024_S16384x1024 := by
    unfold V
    simp only [hostOps0]
    after_results
    try rfl
  rw [e]
  exact rows_apply _ r n

/-- The weights of argument 6 the host hands the call. -/
theorem V2 (c : Dev nD) (k n : Fin 1024) : (V m c main_v2 : FVec Ideal S1024x1024 .bf16) (ix2 k n)
    = (m ((c : Thread nD τ).loc main_arg6) : FVec Ideal S1x1024x1024 .f32) (ix3 0 k n) := by
  have e : (V m c main_v2 : FVec Ideal S1024x1024 .bf16) = truncf (F := Ideal) .bf16 (shapeCast S1024x1024 (m ((c : Thread nD τ).loc main_arg6) : FVec Ideal S1x1024x1024 .f32) shapeCasts_S1x1024x1024_S1024x1024) bitsLt_bf16_f32 := by
    unfold V
    simp only [hostOps0]
    after_results
    try rfl
  rw [e]
  exact ValueIdx.shapeCast_1ab_ab_apply (a := 1024) (b := 1024) (m ((c : Thread nD τ).loc main_arg6) : FVec Ideal S1x1024x1024 .f32) shapeCasts_S1x1024x1024_S1024x1024 k n

/-- The weights of argument 7 the host hands the call. -/
theorem V4 (c : Dev nD) (k n : Fin 1024) : (V m c main_v4 : FVec Ideal S1024x1024 .bf16) (ix2 k n)
    = (m ((c : Thread nD τ).loc main_arg7) : FVec Ideal S1x1024x1024 .f32) (ix3 0 k n) := by
  have e : (V m c main_v4 : FVec Ideal S1024x1024 .bf16) = truncf (F := Ideal) .bf16 (shapeCast S1024x1024 (m ((c : Thread nD τ).loc main_arg7) : FVec Ideal S1x1024x1024 .f32) shapeCasts_S1x1024x1024_S1024x1024) bitsLt_bf16_f32 := by
    unfold V
    simp only [hostOps0]
    after_results
    try rfl
  rw [e]
  exact ValueIdx.shapeCast_1ab_ab_apply (a := 1024) (b := 1024) (m ((c : Thread nD τ).loc main_arg7) : FVec Ideal S1x1024x1024 .f32) shapeCasts_S1x1024x1024_S1024x1024 k n

/-- The weights of argument 8 the host hands the call. -/
theorem V6 (c : Dev nD) (k n : Fin 1024) : (V m c main_v6 : FVec Ideal S1024x1024 .bf16) (ix2 k n)
    = (m ((c : Thread nD τ).loc main_arg8) : FVec Ideal S1x1024x1024 .f32) (ix3 0 k n) := by
  have e : (V m c main_v6 : FVec Ideal S1024x1024 .bf16) = truncf (F := Ideal) .bf16 (shapeCast S1024x1024 (m ((c : Thread nD τ).loc main_arg8) : FVec Ideal S1x1024x1024 .f32) shapeCasts_S1x1024x1024_S1024x1024) bitsLt_bf16_f32 := by
    unfold V
    simp only [hostOps0]
    after_results
    try rfl
  rw [e]
  exact ValueIdx.shapeCast_1ab_ab_apply (a := 1024) (b := 1024) (m ((c : Thread nD τ).loc main_arg8) : FVec Ideal S1x1024x1024 .f32) shapeCasts_S1x1024x1024_S1024x1024 k n

/-- Window 0's block at an index. -/
theorem blk0_apply (c : Dev nD) (t : Fin cfg0.N) (r : Fin 512) (k : Fin 1024) :
    (iblk m c 0 t : Vec Ideal S512x1024 .bf16) (ix2 r k) = (m ((c : Thread nD τ).loc main_arg0) : FVec Ideal S16384x1024 .bf16)
      (ix2 ⟨512 * t.val + r.val, by have := lt_of_lt_of_eq t.isLt N_eq; omega⟩ k) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

/-- Window 1's block at an index. -/
theorem blk1_apply (c : Dev nD) (t : Fin cfg0.N) (r : Fin 512) (k : Fin 1024) :
    (iblk m c 1 t : Vec Ideal S512x1024 .bf16) (ix2 r k) = (m ((c : Thread nD τ).loc main_arg1) : FVec Ideal S16384x1024 .bf16)
      (ix2 ⟨512 * t.val + r.val, by have := lt_of_lt_of_eq t.isLt N_eq; omega⟩ k) := by
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = 512 * t.val + r.val; rw [(idx1 t).1]; omega
  | ⟨1, _⟩ => show win0_1.index t 1 * 1024 + 1 * k.val = k.val; rw [(idx1 t).2]; omega

/-- Window 2's block at an index. -/
theorem blk2_apply (c : Dev nD) (t : Fin cfg0.N) (r : Fin 512) (k : Fin 1024) :
    (iblk m c 2 t : Vec Ideal S512x1024 .bf16) (ix2 r k) = (m ((c : Thread nD τ).loc main_arg2) : FVec Ideal S16384x1024 .bf16)
      (ix2 ⟨512 * t.val + r.val, by have := lt_of_lt_of_eq t.isLt N_eq; omega⟩ k) := by
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * k.val = k.val; rw [(idx2 t).2]; omega

/-- Window 3's block at an index. -/
theorem blk3_apply (c : Dev nD) (t : Fin cfg0.N) (r : Fin 512) (k : Fin 1024) :
    (iblk m c 3 t : Vec Ideal S512x1024 .bf16) (ix2 r k) = (m ((c : Thread nD τ).loc main_arg3) : FVec Ideal S16384x1024 .bf16)
      (ix2 ⟨512 * t.val + r.val, by have := lt_of_lt_of_eq t.isLt N_eq; omega⟩ k) := by
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * r.val = 512 * t.val + r.val; rw [(idx3 t).1]; omega
  | ⟨1, _⟩ => show win0_3.index t 1 * 1024 + 1 * k.val = k.val; rw [(idx3 t).2]; omega

/-- Window 4's block at an index. -/
theorem blk4_apply (c : Dev nD) (t : Fin cfg0.N) (r : Fin 512) (k : Fin 1024) :
    (iblk m c 4 t : Vec Ideal S512x1024 .f32) (ix2 r k) = (m ((c : Thread nD τ).loc main_arg4) : FVec Ideal S8x2048x1024 .f32)
      (ix3 ⟨(512 * t.val + r.val) / 2048, by have := lt_of_lt_of_eq t.isLt N_eq; omega⟩ ⟨(512 * t.val + r.val) % 2048, by omega⟩ k) := by
  refine Eq.trans ?_ (V0 m c ⟨512 * t.val + r.val, by have := lt_of_lt_of_eq t.isLt N_eq; omega⟩ k)
  unfold iblk
  rw [View.read_apply]
  show V m c main_v0 _ = V m c main_v0 _
  congr 1
  funext a
  apply Fin.ext
  match a with
  | ⟨0, _⟩ => show win0_4.index t 0 * 512 + 1 * r.val = 512 * t.val + r.val; rw [(idx4 t).1]; omega
  | ⟨1, _⟩ => show win0_4.index t 1 * 1024 + 1 * k.val = k.val; rw [(idx4 t).2]; omega

/-- Window 5's block at an index. -/
theorem blk5_apply (c : Dev nD) (t : Fin cfg0.N) (j : Fin 6) (k : Fin 1024) :
    (iblk m c 5 t : Vec Ideal S1x6x1024 .f32) (ix3 0 j k) = (m ((c : Thread nD τ).loc main_arg5) : FVec Ideal S8x6x1024 .f32)
      (ix3 ⟨t.val / 4, by have := lt_of_lt_of_eq t.isLt N_eq; omega⟩ j k) := by
  unfold iblk
  rw [View.read_apply]
  show V m c main_arg5 _ = m (c.tc.loc main_arg5) _
  rw [V_main_arg5]
  congr 1
  funext a
  apply Fin.ext
  match a with
  | ⟨0, _⟩ => show win0_5.index t 0 * 1 + 1 * 0 = t.val / 4; rw [(idx5 t).1]; omega
  | ⟨1, _⟩ => show win0_5.index t 1 * 6 + 1 * j.val = j.val; rw [(idx5 t).2.1]; omega
  | ⟨2, _⟩ => show win0_5.index t 2 * 1024 + 1 * k.val = k.val; rw [(idx5 t).2.2]; omega

/-- Window 6's block at an index. -/
theorem blk6_apply (c : Dev nD) (t : Fin cfg0.N) (r k : Fin 1024) :
    (iblk m c 6 t : Vec Ideal S1024x1024 .bf16) (ix2 r k) = (m ((c : Thread nD τ).loc main_arg6) : FVec Ideal S1x1024x1024 .f32) (ix3 0 r k) := by
  refine Eq.trans ?_ (V2 m c r k)
  unfold iblk
  rw [View.read_apply]
  show V m c main_v2 _ = V m c main_v2 _
  congr 1
  funext a
  apply Fin.ext
  match a with
  | ⟨0, _⟩ => show win0_6.index t 0 * 1024 + 1 * r.val = r.val; rw [(idx6 t).1]; omega
  | ⟨1, _⟩ => show win0_6.index t 1 * 1024 + 1 * k.val = k.val; rw [(idx6 t).2]; omega

/-- Window 7's block at an index. -/
theorem blk7_apply (c : Dev nD) (t : Fin cfg0.N) (r k : Fin 1024) :
    (iblk m c 7 t : Vec Ideal S1024x1024 .bf16) (ix2 r k) = (m ((c : Thread nD τ).loc main_arg7) : FVec Ideal S1x1024x1024 .f32) (ix3 0 r k) := by
  refine Eq.trans ?_ (V4 m c r k)
  unfold iblk
  rw [View.read_apply]
  show V m c main_v4 _ = V m c main_v4 _
  congr 1
  funext a
  apply Fin.ext
  match a with
  | ⟨0, _⟩ => show win0_7.index t 0 * 1024 + 1 * r.val = r.val; rw [(idx7 t).1]; omega
  | ⟨1, _⟩ => show win0_7.index t 1 * 1024 + 1 * k.val = k.val; rw [(idx7 t).2]; omega

/-- Window 8's block at an index. -/
theorem blk8_apply (c : Dev nD) (t : Fin cfg0.N) (r k : Fin 1024) :
    (iblk m c 8 t : Vec Ideal S1024x1024 .bf16) (ix2 r k) = (m ((c : Thread nD τ).loc main_arg8) : FVec Ideal S1x1024x1024 .f32) (ix3 0 r k) := by
  refine Eq.trans ?_ (V6 m c r k)
  unfold iblk
  rw [View.read_apply]
  show V m c main_v6 _ = V m c main_v6 _
  congr 1
  funext a
  apply Fin.ext
  match a with
  | ⟨0, _⟩ => show win0_8.index t 0 * 1024 + 1 * r.val = r.val; rw [(idx8 t).1]; omega
  | ⟨1, _⟩ => show win0_8.index t 1 * 1024 + 1 * k.val = k.val; rw [(idx8 t).2]; omega

/-- Where an index of the output's block lies in the array. -/
theorem emb9 (t : Fin cfg0.N) (r : Fin 512) (k : Fin 1024) :
    (((cfg0.win 9).blk t).view.emb (ix2 r k) : S16384x1024.Idx) = ix2 ⟨512 * t.val + r.val, by have := lt_of_lt_of_eq t.isLt N_eq; omega⟩ k := by
  funext a
  apply Fin.ext
  match a with
  | ⟨0, _⟩ => show win0_9.index t 0 * 512 + 1 * r.val = 512 * t.val + r.val; rw [(idx9 t).1]; omega
  | ⟨1, _⟩ => show win0_9.index t 1 * 1024 + 1 * k.val = k.val; rw [(idx9 t).2]; omega

/-- The kernel's result array is the reference's. -/
theorem arr_eq (c : Dev nD) : (dats m 0 c).arrAt 9 cfg0.N = Cert.Reference3Ideal.Read.val_main_v18 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  refine (dats m 0 c).arrAt_eq_of_cover 9 _ (fun t _ => ?_) (fun i => ?_)
  · rw [Cert.Kernel3Ideal.Value.flushed9, out_eq]
    have ht := lt_of_lt_of_eq t.isLt N_eq
    funext y
    obtain ⟨r, k, rfl⟩ : ∃ (r : Fin 512) (k : Fin 1024), y = ix2 r k := ⟨y 0, y 1, eq_ix2 y⟩
    rw [View.read_apply, emb9]
    refine (pay_apply _ _ _ _ _ _ _ _ _ r k).trans (Eq.trans ?_ (Cert.Reference3Ideal.Merge.val_apply _ _ _ _ _ _ _ _ _ _ k).symm)
    simp only [blk0_apply, blk1_apply, blk2_apply, blk3_apply, blk4_apply, blk5_apply, blk6_apply, blk7_apply, blk8_apply]
    have e : (512 * t.val + r.val) / 2048 = t.val / 4 := by omega
    simp only [e]
  · obtain ⟨r, k, rfl⟩ : ∃ (r : Fin 16384) (k : Fin 1024), i = ix2 r k := ⟨i 0, i 1, eq_ix2 i⟩
    have ht : r.val / 512 < cfg0.N := by rw [N_eq]; omega
    refine ⟨⟨_, ht⟩, flush0_9 _, ?_⟩
    have e := emb9 ⟨_, ht⟩ ⟨r.val % 512, by omega⟩ k
    have e' : (((cfg0.win 9).blk ⟨_, ht⟩).view.emb (ix2 (⟨r.val % 512, by omega⟩ : Fin 512) k) : S16384x1024.Idx) = ix2 r k :=
      e.trans (congrArg₂ ix2 (Fin.ext (by dsimp only; omega)) rfl)
    rw [← e']
    exact View.emb_mem_set _ _

end Cert.Kernel3Ideal.Merge

namespace Cert.Proof

open Idealize.ShloMosaic Idealize.ShloMosaic.TcCoe

/-- The merging call computes its reference's result. -/
theorem algebraic3 : Cert.algebraic_Kernel3Ideal_Reference3Ideal := by
  intro m g m' g' _ hagree
  refine ⟨_, Cert.Kernel3Ideal.Value.run_blocks m g, ?_⟩
  refine (θ_run Cert.Reference3Ideal.defs _ _).mono (fun r h c => ⟨?_, (h c).2⟩) (Cert.Reference3Ideal.Value.run (F := Ideal) m' g')
  refine (h c).1.trans ((Cert.Reference3Ideal.Read.val_main_v18_eq _ _ _ _ _ _ _ _ _).trans ?_)
  obtain ⟨a0, a1, a2, a3, a4, a5, a6, a7, a8⟩ := hagree c
  rw [a0, a1, a2, a3, a4, a5, a6, a7, a8]
  exact (Cert.Kernel3Ideal.Merge.arr_eq m c).symm

end Cert.Proof

end
-- ==== Proof.Ada.lean ====
/- The modulation call: what its kernel leaves is what its reference computes. -/
module

public import proofs.«01_k».proof.Defs
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pointwise
public import Idealize.ShloMosaic.Lib.ValueLayout

@[expose] public section

set_option maxRecDepth 8192
set_option maxHeartbeats 400000

noncomputable section

namespace Cert.Reference4Ideal.Ada

open Cert.Reference4Ideal Cert.Reference4Ideal.Gen Idealize.ShloMosaic Idealize.ShloMosaic.TcCoe
open Facts

/-- The reference's result at an index. -/
theorem val_apply (x0 : FVec Ideal S8x1024 .f32) (x1 : FVec Ideal S1x1024x6144 .f32) (x2 : FVec Ideal S1x6144 .f32) (b : Fin 8) (n : Fin 6144) :
    Read.val_main_v6 (F := Ideal) x0 x1 x2 (ix2 b n)
      = (∑ k : Fin 1024, x0 (ix2 b k) * Ideal.div 1 (1 + Ideal.exp (-(x0 (ix2 b k)))) * x1 (ix3 0 k n)) + x2 (ix2 0 n) := by
  rw [← Read.val_main_v6_eq]
  pointwise []

end Cert.Reference4Ideal.Ada

namespace Cert.Kernel4Ideal.Ada

open Cert.Kernel4Ideal Cert.Kernel4Ideal.Gen Idealize.ShloMosaic Idealize.ShloMosaic.TcCoe
open Facts

/-- What the body stores, at an index. -/
theorem pay_apply (v0 : Vec Ideal S8x1024 .f32) (v10 : Vec Ideal S1024x1024 .bf16) (v13 : Vec Ideal S1x1024 .f32) (b : Fin 8) (n : Fin 1024) :
    k0_pay1 (F := Ideal) v0 v10 v13 (ix2 b n)
      = (∑ k : Fin 1024, v0 (ix2 b k) * Ideal.div 1 (1 + Ideal.exp (-(v0 (ix2 b k)))) * v10 (ix2 k n)) + v13 (ix2 0 n) := by
  pointwise [k0_pay1]
  simp only [zero_sub]

theorem zero2 : (![0, 0] : Fin 2 → Nat) = fun _ => 0 := funext fun a => by fin_cases a <;> rfl

/-- The body's block is its one payload at the whole blocks. -/
theorem out_eq (x0 : Vec Ideal S8x1024 .f32) (x1 : Vec Ideal S1024x1024 .bf16) (x2 : Vec Ideal S1x1024 .f32) :
    out0_3 (F := Ideal) x0 x1 x2 = k0_pay1 x0 x1 x2 := by
  unfold out0_3
  rw [View.canon_unit_zero (S := S8x1024) zero2, View.ld_unit_zero (S := S8x1024) zero2, View.ld_unit_zero (S := S1024x1024) zero2, View.ld_unit_zero (S := S1x1024) zero2]

theorem N_eq : cfg0.N = 6 := by decide +kernel
theorem idx0 : ∀ t : Fin grid0.N, win0_0.index t 0 = 0 ∧ win0_0.index t 1 = 0 := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel

variable (m : (ℓ : Loc nD τ sig) → Buf (Elt Ideal) ℓ)

/-- The weights the host hands the call. -/
theorem V1 (c : Dev nD) (k : Fin 1024) (n : Fin 6144) : (V m c main_v1 : FVec Ideal S1024x6144 .bf16) (ix2 k n)
    = (m ((c : Thread nD τ).loc main_arg1) : FVec Ideal S1x1024x6144 .f32) (ix3 0 k n) := by
  have e : (V m c main_v1 : FVec Ideal S1024x6144 .bf16) = truncf (F := Ideal) .bf16 (shapeCast S1024x6144 (m ((c : Thread nD τ).loc main_arg1) : FVec Ideal S1x1024x6144 .f32) shapeCasts_S1x1024x6144_S1024x6144) bitsLt_bf16_f32 := by
    unfold V
    simp only [hostOps0]
    after_results
    try rfl
  rw [e]
  exact Idealize.ShloMosaic.ValueIdx.shapeCast_1ab_ab_apply (a := 1024) (b := 6144) (m ((c : Thread nD τ).loc main_arg1) : FVec Ideal S1x1024x6144 .f32) shapeCasts_S1x1024x6144_S1024x6144 k n

/-- The bias the host hands the call. -/
theorem V3 (c : Dev nD) (n : Fin 6144) : (V m c main_v3 : FVec Ideal S1x6144 .f32) (ix2 0 n)
    = (m ((c : Thread nD τ).loc main_arg2) : FVec Ideal S1x6144 .f32) (ix2 0 n) := by
  have e : (V m c main_v3 : FVec Ideal S1x6144 .f32) = shapeCast S1x6144 (shapeCast S6144 (m ((c : Thread nD τ).loc main_arg2) : FVec Ideal S1x6144 .f32) shapeCasts_S1x6144_S6144) shapeCasts_S6144_S1x6144 := by
    unfold V
    simp only [hostOps0]
    after_results
    try rfl
  rw [e, shapeCast_shapeCast]

/-- Window 0's block at an index. -/
theorem blk0_apply (c : Dev nD) (t : Fin cfg0.N) (r : Fin 8) (k : Fin 1024) :
    (iblk m c 0 t : Vec Ideal S8x1024 .f32) (ix2 r k) = (m ((c : Thread nD τ).loc main_arg0) : FVec Ideal S8x1024 .f32) (ix2 r k) := by
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * r.val = r.val; rw [(idx0 t).1]; omega
  | ⟨1, _⟩ => show win0_0.index t 1 * 1024 + 1 * k.val = k.val; rw [(idx0 t).2]; omega

/-- Window 1's block at an index. -/
theorem blk1_apply (c : Dev nD) (t : Fin cfg0.N) (r : Fin 1024) (k : Fin 1024) :
    (iblk m c 1 t : Vec Ideal S1024x1024 .bf16) (ix2 r k) = (m ((c : Thread nD τ).loc main_arg1) : FVec Ideal S1x1024x6144 .f32)
      (ix3 0 r ⟨1024 * t.val + k.val, by have := lt_of_lt_of_eq t.isLt N_eq; omega⟩) := by
  refine Eq.trans ?_ (V1 m c _ _)
  unfold iblk
  rw [View.read_apply]
  show V m c main_v1 _ = V m c main_v1 _
  congr 1
  funext a
  apply Fin.ext
  match a with
  | ⟨0, _⟩ => show win0_1.index t 0 * 1024 + 1 * r.val = r.val; rw [(idx1 t).1]; omega
  | ⟨1, _⟩ => show win0_1.index t 1 * 1024 + 1 * k.val = 1024 * t.val + k.val; rw [(idx1 t).2]; omega

/-- Window 2's block at an index. -/
theorem blk2_apply (c : Dev nD) (t : Fin cfg0.N) (k : Fin 1024) :
    (iblk m c 2 t : Vec Ideal S1x1024 .f32) (ix2 0 k) = (m ((c : Thread nD τ).loc main_arg2) : FVec Ideal S1x6144 .f32)
      (ix2 0 ⟨1024 * t.val + k.val, by have := lt_of_lt_of_eq t.isLt N_eq; omega⟩) := by
  refine Eq.trans ?_ (V3 m c _)
  unfold iblk
  rw [View.read_apply]
  show V m c main_v3 _ = V m c main_v3 _
  congr 1
  funext a
  apply Fin.ext
  match a with
  | ⟨0, _⟩ => show win0_2.index t 0 * 1 + 1 * 0 = 0; rw [(idx2 t).1]
  | ⟨1, _⟩ => show win0_2.index t 1 * 1024 + 1 * k.val = 1024 * t.val + k.val; rw [(idx2 t).2]; omega

/-- Where an index of the output's block lies in the array. -/
theorem emb3 (t : Fin cfg0.N) (r : Fin 8) (k : Fin 1024) :
    (((cfg0.win 3).blk t).view.emb (ix2 r k) : S8x6144.Idx) = ix2 r ⟨1024 * t.val + k.val, by have := lt_of_lt_of_eq t.isLt N_eq; omega⟩ := by
  funext a
  apply Fin.ext
  match a with
  | ⟨0, _⟩ => show win0_3.index t 0 * 8 + 1 * r.val = r.val; rw [(idx3 t).1]; omega
  | ⟨1, _⟩ => show win0_3.index t 1 * 1024 + 1 * k.val = 1024 * t.val + k.val; rw [(idx3 t).2]; omega

/-- The kernel's result array is the reference's. -/
theorem arr_eq (c : Dev nD) : (dats m 0 c).arrAt 3 cfg0.N = Cert.Reference4Ideal.Read.val_main_v6 (F := Ideal)
    (m ((c : Thread nD τ).loc main_arg0)) (m ((c : Thread nD τ).loc main_arg1)) (m ((c : Thread nD τ).loc main_arg2)) := by
  refine (dats m 0 c).arrAt_eq_of_cover 3 _ (fun t _ => ?_) (fun i => ?_)
  · rw [Cert.Kernel4Ideal.Value.flushed3, out_eq]
    have ht := lt_of_lt_of_eq t.isLt N_eq
    funext y
    obtain ⟨r, k, rfl⟩ : ∃ (r : Fin 8) (k : Fin 1024), y = ix2 r k := ⟨y 0, y 1, eq_ix2 y⟩
    rw [View.read_apply, emb3]
    refine (pay_apply _ _ _ r k).trans (Eq.trans ?_ (Cert.Reference4Ideal.Ada.val_apply _ _ _ r _).symm)
    simp only [blk0_apply, blk1_apply, blk2_apply]
  · obtain ⟨r, k, rfl⟩ : ∃ (r : Fin 8) (k : Fin 6144), i = ix2 r k := ⟨i 0, i 1, eq_ix2 i⟩
    have ht : k.val / 1024 < cfg0.N := by rw [N_eq]; omega
    refine ⟨⟨_, ht⟩, flush0_3 _, ?_⟩
    have e := emb3 ⟨_, ht⟩ r ⟨k.val % 1024, by omega⟩
    have e' : (((cfg0.win 3).blk ⟨_, ht⟩).view.emb (ix2 r (⟨k.val % 1024, by omega⟩ : Fin 1024)) : S8x6144.Idx) = ix2 r k :=
      e.trans (congrArg₂ ix2 rfl (Fin.ext (by dsimp only; omega)))
    rw [← e']
    exact View.emb_mem_set _ _

end Cert.Kernel4Ideal.Ada

namespace Cert.Proof

open Idealize.ShloMosaic Idealize.ShloMosaic.TcCoe

/-- The modulation call computes its reference's result. -/
theorem algebraic4 : Cert.algebraic_Kernel4Ideal_Reference4Ideal := by
  intro m g m' g' _ hagree
  refine ⟨_, Cert.Kernel4Ideal.Value.run_blocks m g, ?_⟩
  refine (θ_run Cert.Reference4Ideal.defs _ _).mono (fun r h c => ⟨?_, (h c).2⟩) (Cert.Reference4Ideal.Value.run (F := Ideal) m' g')
  refine (h c).1.trans ((Cert.Reference4Ideal.Read.val_main_v6_eq _ _ _).trans ?_)
  obtain ⟨a0, a1, a2⟩ := hagree c
  rw [a0, a1, a2]
  exact (Cert.Kernel4Ideal.Ada.arr_eq m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Algebraic
public import proofs.«01_k».proof.Proof.InProj
public import proofs.«01_k».proof.Proof.Merge
public import proofs.«01_k».proof.Proof.Ada
public import Idealize.ShloMosaic.Adequacy
public import Idealize.ShloMosaic.Init

@[expose] public section

noncomputable section

namespace Cert.Proof

open Idealize.ShloMosaic Idealize.SL.Sem Cert.Kernel

/-- The reference runs, its arguments end unchanged, and it has no semaphore to leave nonzero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The projection's reference runs, its arguments end unchanged, and it has no semaphore to leave nonzero. -/
theorem frame_ri2 : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

/-- The merge's reference runs, its arguments end unchanged, and it has no semaphore to leave nonzero. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The conditioning's reference runs, its arguments end unchanged, and it has no semaphore to leave nonzero. -/
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The certificate's claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_real_and_open.shapes,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    trivial, @algebraic Cert.Pre_real_and_open.shapes, trivial, algebraic2, trivial, algebraic3, trivial, algebraic4⟩

end Cert.Proof

end
